-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x3x256x256 : Shape := ⟨5, ![4, 16, 3, 256, 256]⟩
abbrev S4x3x3 : Shape := ⟨3, ![4, 3, 3]⟩
abbrev S4x16x256x256x3 : Shape := ⟨5, ![4, 16, 256, 256, 3]⟩
abbrev S4x16x3x64x256 : Shape := ⟨5, ![4, 16, 3, 64, 256]⟩
abbrev S4x16x3x16384 : Shape := ⟨4, ![4, 16, 3, 16384]⟩
abbrev S4x16x2x16384 : Shape := ⟨4, ![4, 16, 2, 16384]⟩
abbrev S4x16x1x16384 : Shape := ⟨4, ![4, 16, 1, 16384]⟩
abbrev S4x2x16x16384 : Shape := ⟨4, ![4, 2, 16, 16384]⟩
abbrev S4x32x16384 : Shape := ⟨3, ![4, 32, 16384]⟩
abbrev S4x4x16384 : Shape := ⟨3, ![4, 4, 16384]⟩
abbrev S32x512 : Shape := ⟨2, ![32, 512]⟩
abbrev S4x512 : Shape := ⟨2, ![4, 512]⟩
abbrev S_ : Shape := ⟨0, ![]⟩
abbrev S1x32x512 : Shape := ⟨3, ![1, 32, 512]⟩
abbrev S1x16 : Shape := ⟨2, ![1, 16]⟩
abbrev S16 : Shape := ⟨1, ![16]⟩
abbrev S1x4x512 : Shape := ⟨3, ![1, 4, 512]⟩
abbrev S4x4x64x256 : Shape := ⟨4, ![4, 4, 64, 256]⟩
abbrev S4x16x3x192x256 : Shape := ⟨5, ![4, 16, 3, 192, 256]⟩
abbrev S4x4x192x256 : Shape := ⟨4, ![4, 4, 192, 256]⟩
abbrev S1x16x3x32x256 : Shape := ⟨5, ![1, 16, 3, 32, 256]⟩
abbrev S1x4x32x256 : Shape := ⟨4, ![1, 4, 32, 256]⟩
abbrev S1x1x1x32x256 : Shape := ⟨5, ![1, 1, 1, 32, 256]⟩
abbrev S32x256 : Shape := ⟨2, ![32, 256]⟩
abbrev S1x1x32x256 : Shape := ⟨4, ![1, 1, 32, 256]⟩
abbrev S4x4x256x256 : Shape := ⟨4, ![4, 4, 256, 256]⟩
abbrev S4x256x256x4 : Shape := ⟨4, ![4, 256, 256, 4]⟩

abbrev nBuf : Table → Nat
  | .hbm => 18
  | .local .tc .vmem => 4
  | .local .scVector .vmem => 2
  | _ => 0

abbrev bufTy : (tb : Table) → Fin (nBuf tb) → BufTy
  | .hbm, ⟨0, _⟩ => ⟨S4x16x3x256x256, .f32⟩
  | .hbm, ⟨1, _⟩ => ⟨S4x3x3, .f32⟩
  | .hbm, ⟨2, _⟩ => ⟨S4x16x256x256x3, .f32⟩
  | .hbm, ⟨3, _⟩ => ⟨S4x16x3x256x256, .f32⟩
  | .hbm, ⟨4, _⟩ => ⟨S4x16x3x64x256, .f32⟩
  | .hbm, ⟨5, _⟩ => ⟨S4x16x3x16384, .f32⟩
  | .hbm, ⟨6, _⟩ => ⟨S4x16x2x16384, .f32⟩
  | .hbm, ⟨7, _⟩ => ⟨S4x16x1x16384, .f32⟩
  | .hbm, ⟨8, _⟩ => ⟨S4x16x2x16384, .f32⟩
  | .hbm, ⟨9, _⟩ => ⟨S4x16x2x16384, .f32⟩
  | .hbm, ⟨10, _⟩ => ⟨S4x2x16x16384, .f32⟩
  | .hbm, ⟨11, _⟩ => ⟨S4x32x16384, .f32⟩
  | .hbm, ⟨12, _⟩ => ⟨S4x4x16384, .i32⟩
  | .hbm, ⟨13, _⟩ => ⟨S4x4x64x256, .i32⟩
  | .hbm, ⟨14, _⟩ => ⟨S4x16x3x192x256, .f32⟩
  | .hbm, ⟨15, _⟩ => ⟨S4x4x192x256, .i32⟩
  | .hbm, ⟨16, _⟩ => ⟨S4x4x256x256, .i32⟩
  | .hbm, ⟨17, _⟩ => ⟨S4x256x256x4, .i32⟩
  | .local .tc .vmem, ⟨0, _⟩ => ⟨S1x16x3x32x256, .f32⟩
  | .local .tc .vmem, ⟨1, _⟩ => ⟨S1x16x3x32x256, .f32⟩
  | .local .tc .vmem, ⟨2, _⟩ => ⟨S1x4x32x256, .i32⟩
  | .local .tc .vmem, ⟨3, _⟩ => ⟨S1x4x32x256, .i32⟩
  | .local .scVector .vmem, ⟨0, _⟩ => ⟨S32x512, .f32⟩
  | .local .scVector .vmem, ⟨1, _⟩ => ⟨S4x512, .i32⟩
  | _, _ => ⟨S4x16x3x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => true
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v9_scv : Ref sig .scVector := ⟨.hbm, 11, rfl⟩
abbrev main_v10_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v2 : BitVec 32 := Scalar.addi c0_i32_0 c4_i32
  let c1_i32 : BitVec 32 := 1#32
  ⟨c0_i32_0, v2, c1_i32⟩
def k0_off1 (i : grid0.Coords) (k0_t1 : Fin k0_t1_loop.trips) : Fin 3 → Nat :=
  let c0_i32_0 : BitVec 32 := 0#32
  let c1_i32 : BitVec 32 := 1#32
  let arg6 : BitVec 32 := Scf.iv c0_i32_0 c1_i32 k0_t1
  let c0_i32_3 : BitVec 32 := 0#32
  let v4 : BitVec 1 := Scalar.cmpi .sgt arg6 c0_i32_3
  let v5 : BitVec 32 := Scalar.extui v4
  let c0_i32_4 : BitVec 32 := 0#32
  let v6 : BitVec 1 := Scalar.cmpi .slt arg6 c0_i32_4
  let v7 : BitVec 32 := Scalar.extui v6
  let v8 : BitVec 32 := Scalar.subi v5 v7
  let c1_i32_2 : BitVec 32 := 1#32
  let c0_i32_5 : BitVec 32 := 0#32
  let v9 : BitVec 1 := Scalar.cmpi .sgt c1_i32_2 c0_i32_5
  let v10 : BitVec 32 := Scalar.extui v9
  let c0_i32_6 : BitVec 32 := 0#32
  let v11 : BitVec 1 := Scalar.cmpi .slt c1_i32_2 c0_i32_6
  let v12 : BitVec 32 := Scalar.extui v11
  let v13 : BitVec 32 := Scalar.subi v10 v12
  let v14 : BitVec 1 := Scalar.cmpi .ne v8 v13
  let v15 : BitVec 32 := Scalar.remsi arg6 c1_i32_2
  let c0_i32_7 : BitVec 32 := 0#32
  let v16 : BitVec 1 := Scalar.cmpi .ne v15 c0_i32_7
  let v17 : BitVec 1 := Scalar.andi v14 v16
  let v3 : BitVec 32 := Scalar.divsi arg6 c1_i32_2
  let c1_i32_8 : BitVec 32 := 1#32
  let v18 : BitVec 32 := Scalar.subi v3 c1_i32_8
  let v19 : BitVec 32 := Scalar.select v17 v18 v3
  let c0_i32_20_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v30 : BitVec 32 := Scalar.muli v1 c512_i32
  let c1_i32_9 : BitVec 32 := 1#32
  let c0_i32_10 : BitVec 32 := 0#32
  let v20 : BitVec 1 := Scalar.cmpi .eq c1_i32_9 c0_i32_10
  let c1_i32_11 : BitVec 32 := 1#32
  let v21 : BitVec 32 := Scalar.select v20 c1_i32_11 c1_i32_9
  let v22 : BitVec 32 := Scalar.remsi arg6 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c512_i32_15 : BitVec 32 := 512#32
  let v31 : BitVec 32 := Scalar.muli v29 c512_i32_15
  let v32 : BitVec 32 := Scalar.addi v30 v31
  ![v19.toNat, 0, v32.toNat]
@[reducible] def k0_t2_loop : Scf.Loop 32 :=
  let c0_i32_17 : BitVec 32 := 0#32
  let c32_i32 : BitVec 32 := 32#32
  let v33 : BitVec 32 := Scalar.addi c0_i32_17 c32_i32
  let c1_i32_18 : BitVec 32 := 1#32
  ⟨c0_i32_17, v33, c1_i32_18⟩
def k0_off2 (k0_t2 : Fin k0_t2_loop.trips) : Fin 2 → Nat :=
  let c0_i32_20 : BitVec 32 := 0#32
  let v35 : Index := Scalar.indexCast c0_i32_20
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v36 : Index := Scalar.indexCast v34
  ![0, v36.toNat]
def k0_off3 (k0_t2 : Fin k0_t2_loop.trips) : Fin 2 → Nat :=
  let c1_i32_21 : BitVec 32 := 1#32
  let v39 : Index := Scalar.indexCast c1_i32_21
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v40 : Index := Scalar.indexCast v34
  ![1, v40.toNat]
def k0_off4 (k0_t2 : Fin k0_t2_loop.trips) : Fin 2 → Nat :=
  let c2_i32_22 : BitVec 32 := 2#32
  let v43 : Index := Scalar.indexCast c2_i32_22
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v44 : Index := Scalar.indexCast v34
  ![2, v44.toNat]
def k0_off5 (k0_t2 : Fin k0_t2_loop.trips) : Fin 2 → Nat :=
  let c3_i32 : BitVec 32 := 3#32
  let v47 : Index := Scalar.indexCast c3_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v48 : Index := Scalar.indexCast v34
  ![3, v48.toNat]
def k0_off6 (k0_t2 : Fin k0_t2_loop.trips) : Fin 2 → Nat :=
  let c4_i32_23 : BitVec 32 := 4#32
  let v51 : Index := Scalar.indexCast c4_i32_23
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v52 : Index := Scalar.indexCast v34
  ![4, v52.toNat]
def k0_off7 (k0_t2 : Fin k0_t2_loop.trips) : Fin 2 → Nat :=
  let c5_i32 : BitVec 32 := 5#32
  let v55 : Index := Scalar.indexCast c5_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v56 : Index := Scalar.indexCast v34
  ![5, v56.toNat]
def k0_off8 (k0_t2 : Fin k0_t2_loop.trips) : Fin 2 → Nat :=
  let c6_i32 : BitVec 32 := 6#32
  let v59 : Index := Scalar.indexCast c6_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v60 : Index := Scalar.indexCast v34
  ![6, v60.toNat]
def k0_off9 (k0_t2 : Fin k0_t2_loop.trips) : Fin 2 → Nat :=
  let c7_i32 : BitVec 32 := 7#32
  let v63 : Index := Scalar.indexCast c7_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v64 : Index := Scalar.indexCast v34
  ![7, v64.toNat]
def k0_off10 (k0_t2 : Fin k0_t2_loop.trips) : Fin 2 → Nat :=
  let c8_i32 : BitVec 32 := 8#32
  let v67 : Index := Scalar.indexCast c8_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v68 : Index := Scalar.indexCast v34
  ![8, v68.toNat]
def k0_off11 (k0_t2 : Fin k0_t2_loop.trips) : Fin 2 → Nat :=
  let c9_i32 : BitVec 32 := 9#32
  let v71 : Index := Scalar.indexCast c9_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v72 : Index := Scalar.indexCast v34
  ![9, v72.toNat]
def k0_off12 (k0_t2 : Fin k0_t2_loop.trips) : Fin 2 → Nat :=
  let c10_i32 : BitVec 32 := 10#32
  let v75 : Index := Scalar.indexCast c10_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v76 : Index := Scalar.indexCast v34
  ![10, v76.toNat]
def k0_off13 (k0_t2 : Fin k0_t2_loop.trips) : Fin 2 → Nat :=
  let c11_i32 : BitVec 32 := 11#32
  let v79 : Index := Scalar.indexCast c11_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v80 : Index := Scalar.indexCast v34
  ![11, v80.toNat]
def k0_off14 (k0_t2 : Fin k0_t2_loop.trips) : Fin 2 → Nat :=
  let c12_i32 : BitVec 32 := 12#32
  let v83 : Index := Scalar.indexCast c12_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v84 : Index := Scalar.indexCast v34
  ![12, v84.toNat]
def k0_off15 (k0_t2 : Fin k0_t2_loop.trips) : Fin 2 → Nat :=
  let c13_i32 : BitVec 32 := 13#32
  let v87 : Index := Scalar.indexCast c13_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v88 : Index := Scalar.indexCast v34
  ![13, v88.toNat]
def k0_off16 (k0_t2 : Fin k0_t2_loop.trips) : Fin 2 → Nat :=
  let c14_i32 : BitVec 32 := 14#32
  let v91 : Index := Scalar.indexCast c14_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v92 : Index := Scalar.indexCast v34
  ![14, v92.toNat]
def k0_off17 (k0_t2 : Fin k0_t2_loop.trips) : Fin 2 → Nat :=
  let c15_i32 : BitVec 32 := 15#32
  let v95 : Index := Scalar.indexCast c15_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v96 : Index := Scalar.indexCast v34
  ![15, v96.toNat]
def k0_off18 (k0_t2 : Fin k0_t2_loop.trips) : Fin 2 → Nat :=
  let c16_i32_24 : BitVec 32 := 16#32
  let v99 : Index := Scalar.indexCast c16_i32_24
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v100 : Index := Scalar.indexCast v34
  ![16, v100.toNat]
def k0_off19 (k0_t2 : Fin k0_t2_loop.trips) : Fin 2 → Nat :=
  let c17_i32 : BitVec 32 := 17#32
  let v103 : Index := Scalar.indexCast c17_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v104 : Index := Scalar.indexCast v34
  ![17, v104.toNat]
def k0_off20 (k0_t2 : Fin k0_t2_loop.trips) : Fin 2 → Nat :=
  let c18_i32 : BitVec 32 := 18#32
  let v107 : Index := Scalar.indexCast c18_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v108 : Index := Scalar.indexCast v34
  ![18, v108.toNat]
def k0_off21 (k0_t2 : Fin k0_t2_loop.trips) : Fin 2 → Nat :=
  let c19_i32 : BitVec 32 := 19#32
  let v111 : Index := Scalar.indexCast c19_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v112 : Index := Scalar.indexCast v34
  ![19, v112.toNat]
def k0_off22 (k0_t2 : Fin k0_t2_loop.trips) : Fin 2 → Nat :=
  let c20_i32 : BitVec 32 := 20#32
  let v115 : Index := Scalar.indexCast c20_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v116 : Index := Scalar.indexCast v34
  ![20, v116.toNat]
def k0_off23 (k0_t2 : Fin k0_t2_loop.trips) : Fin 2 → Nat :=
  let c21_i32 : BitVec 32 := 21#32
  let v119 : Index := Scalar.indexCast c21_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v120 : Index := Scalar.indexCast v34
  ![21, v120.toNat]
def k0_off24 (k0_t2 : Fin k0_t2_loop.trips) : Fin 2 → Nat :=
  let c22_i32 : BitVec 32 := 22#32
  let v123 : Index := Scalar.indexCast c22_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v124 : Index := Scalar.indexCast v34
  ![22, v124.toNat]
def k0_off25 (k0_t2 : Fin k0_t2_loop.trips) : Fin 2 → Nat :=
  let c23_i32 : BitVec 32 := 23#32
  let v127 : Index := Scalar.indexCast c23_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v128 : Index := Scalar.indexCast v34
  ![23, v128.toNat]
def k0_off26 (k0_t2 : Fin k0_t2_loop.trips) : Fin 2 → Nat :=
  let c24_i32 : BitVec 32 := 24#32
  let v131 : Index := Scalar.indexCast c24_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v132 : Index := Scalar.indexCast v34
  ![24, v132.toNat]
def k0_off27 (k0_t2 : Fin k0_t2_loop.trips) : Fin 2 → Nat :=
  let c25_i32 : BitVec 32 := 25#32
  let v135 : Index := Scalar.indexCast c25_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v136 : Index := Scalar.indexCast v34
  ![25, v136.toNat]
def k0_off28 (k0_t2 : Fin k0_t2_loop.trips) : Fin 2 → Nat :=
  let c26_i32 : BitVec 32 := 26#32
  let v139 : Index := Scalar.indexCast c26_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v140 : Index := Scalar.indexCast v34
  ![26, v140.toNat]
def k0_off29 (k0_t2 : Fin k0_t2_loop.trips) : Fin 2 → Nat :=
  let c27_i32 : BitVec 32 := 27#32
  let v143 : Index := Scalar.indexCast c27_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v144 : Index := Scalar.indexCast v34
  ![27, v144.toNat]
def k0_off30 (k0_t2 : Fin k0_t2_loop.trips) : Fin 2 → Nat :=
  let c28_i32 : BitVec 32 := 28#32
  let v147 : Index := Scalar.indexCast c28_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v148 : Index := Scalar.indexCast v34
  ![28, v148.toNat]
def k0_off31 (k0_t2 : Fin k0_t2_loop.trips) : Fin 2 → Nat :=
  let c29_i32 : BitVec 32 := 29#32
  let v151 : Index := Scalar.indexCast c29_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v152 : Index := Scalar.indexCast v34
  ![29, v152.toNat]
def k0_off32 (k0_t2 : Fin k0_t2_loop.trips) : Fin 2 → Nat :=
  let c30_i32 : BitVec 32 := 30#32
  let v155 : Index := Scalar.indexCast c30_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v156 : Index := Scalar.indexCast v34
  ![30, v156.toNat]
def k0_off33 (k0_t2 : Fin k0_t2_loop.trips) : Fin 2 → Nat :=
  let c31_i32 : BitVec 32 := 31#32
  let v159 : Index := Scalar.indexCast c31_i32
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v160 : Index := Scalar.indexCast v34
  ![31, v160.toNat]
def k0_off34 (k0_t2 : Fin k0_t2_loop.trips) : Fin 2 → Nat :=
  let c0_i32_505 : BitVec 32 := 0#32
  let v1876 : Index := Scalar.indexCast c0_i32_505
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v1877 : Index := Scalar.indexCast v34
  ![0, v1877.toNat]
def k0_off35 (k0_t2 : Fin k0_t2_loop.trips) : Fin 2 → Nat :=
  let c1_i32_506 : BitVec 32 := 1#32
  let v1881 : Index := Scalar.indexCast c1_i32_506
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v1882 : Index := Scalar.indexCast v34
  ![1, v1882.toNat]
def k0_off36 (k0_t2 : Fin k0_t2_loop.trips) : Fin 2 → Nat :=
  let c2_i32_507 : BitVec 32 := 2#32
  let v1886 : Index := Scalar.indexCast c2_i32_507
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v1887 : Index := Scalar.indexCast v34
  ![2, v1887.toNat]
def k0_off37 (k0_t2 : Fin k0_t2_loop.trips) : Fin 2 → Nat :=
  let c3_i32_508 : BitVec 32 := 3#32
  let v1891 : Index := Scalar.indexCast c3_i32_508
  let c0_i32_17 : BitVec 32 := 0#32
  let c1_i32_18 : BitVec 32 := 1#32
  let arg7 : BitVec 32 := Scf.iv c0_i32_17 c1_i32_18 k0_t2
  let c16_i32 : BitVec 32 := 16#32
  let v34 : BitVec 32 := Scalar.muli arg7 c16_i32
  let v1892 : Index := Scalar.indexCast v34
  ![3, v1892.toNat]
def k0_off38 (i : grid0.Coords) (k0_t1 : Fin k0_t1_loop.trips) : Fin 3 → Nat :=
  let c0_i32_0 : BitVec 32 := 0#32
  let c1_i32 : BitVec 32 := 1#32
  let arg6 : BitVec 32 := Scf.iv c0_i32_0 c1_i32 k0_t1
  let c0_i32_3 : BitVec 32 := 0#32
  let v4 : BitVec 1 := Scalar.cmpi .sgt arg6 c0_i32_3
  let v5 : BitVec 32 := Scalar.extui v4
  let c0_i32_4 : BitVec 32 := 0#32
  let v6 : BitVec 1 := Scalar.cmpi .slt arg6 c0_i32_4
  let v7 : BitVec 32 := Scalar.extui v6
  let v8 : BitVec 32 := Scalar.subi v5 v7
  let c1_i32_2 : BitVec 32 := 1#32
  let c0_i32_5 : BitVec 32 := 0#32
  let v9 : BitVec 1 := Scalar.cmpi .sgt c1_i32_2 c0_i32_5
  let v10 : BitVec 32 := Scalar.extui v9
  let c0_i32_6 : BitVec 32 := 0#32
  let v11 : BitVec 1 := Scalar.cmpi .slt c1_i32_2 c0_i32_6
  let v12 : BitVec 32 := Scalar.extui v11
  let v13 : BitVec 32 := Scalar.subi v10 v12
  let v14 : BitVec 1 := Scalar.cmpi .ne v8 v13
  let v15 : BitVec 32 := Scalar.remsi arg6 c1_i32_2
  let c0_i32_7 : BitVec 32 := 0#32
  let v16 : BitVec 1 := Scalar.cmpi .ne v15 c0_i32_7
  let v17 : BitVec 1 := Scalar.andi v14 v16
  let v3 : BitVec 32 := Scalar.divsi arg6 c1_i32_2
  let c1_i32_8 : BitVec 32 := 1#32
  let v18 : BitVec 32 := Scalar.subi v3 c1_i32_8
  let v19 : BitVec 32 := Scalar.select v17 v18 v3
  let c0_i32_20_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v30 : BitVec 32 := Scalar.muli v1 c512_i32
  let c1_i32_9 : BitVec 32 := 1#32
  let c0_i32_10 : BitVec 32 := 0#32
  let v20 : BitVec 1 := Scalar.cmpi .eq c1_i32_9 c0_i32_10
  let c1_i32_11 : BitVec 32 := 1#32
  let v21 : BitVec 32 := Scalar.select v20 c1_i32_11 c1_i32_9
  let v22 : BitVec 32 := Scalar.remsi arg6 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c512_i32_15 : BitVec 32 := 512#32
  let v31 : BitVec 32 := Scalar.muli v29 c512_i32_15
  let v32 : BitVec 32 := Scalar.addi v30 v31
  ![v19.toNat, 0, v32.toNat]
abbrev grid1 : Pipeline.Grid := ⟨2, ![4, 6], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x16x3x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x32x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16x3x256x256 : Shape := ⟨5, ![4, 16, 3, 256, 256]⟩
abbrev S4x3x3 : Shape := ⟨3, ![4, 3, 3]⟩
abbrev S4x3x256x256x16 : Shape := ⟨5, ![4, 3, 256, 256, 16]⟩
abbrev S4x3x65536x16 : Shape := ⟨4, ![4, 3, 65536, 16]⟩
abbrev S4x1x65536x16 : Shape := ⟨4, ![4, 1, 65536, 16]⟩
abbrev S4x2x65536x16 : Shape := ⟨4, ![4, 2, 65536, 16]⟩
abbrev S4x65536x16x2 : Shape := ⟨4, ![4, 65536, 16, 2]⟩
abbrev S4x256x256x16x2 : Shape := ⟨5, ![4, 256, 256, 16, 2]⟩
abbrev S_ : Shape := ⟨0, ![]⟩
abbrev S4x256x256x16 : Shape := ⟨4, ![4, 256, 256, 16]⟩
abbrev S16 : Shape := ⟨1, ![16]⟩
abbrev S4x256x256x1 : Shape := ⟨4, ![4, 256, 256, 1]⟩
abbrev S4x256x256 : Shape := ⟨3, ![4, 256, 256]⟩
abbrev S1 : Shape := ⟨1, ![1]⟩
abbrev S4x256x256x1x2 : Shape := ⟨5, ![4, 256, 256, 1, 2]⟩
abbrev S1x1x1x16 : Shape := ⟨4, ![1, 1, 1, 16]⟩
abbrev S4x256x256x4 : Shape := ⟨4, ![4, 256, 256, 4]⟩

abbrev nBuf : Space → Nat
  | .hbm => 443
  | .vmem => 0
  | .smem => 0
  | _ => 0

abbrev hbmTy0_0 (i : Nat) : BufTy := match i % 128 with
  | 0 => ⟨S4x16x3x256x256, .f32⟩
  | 1 => ⟨S4x3x3, .f32⟩
  | 2 => ⟨S4x3x256x256x16, .f32⟩
  | 3 => ⟨S4x3x65536x16, .f32⟩
  | 4 => ⟨S4x3x65536x16, .f32⟩
  | 5 => ⟨S4x1x65536x16, .f32⟩
  | 6 => ⟨S4x2x65536x16, .f32⟩
  | 7 => ⟨S4x2x65536x16, .f32⟩
  | 8 => ⟨S4x2x65536x16, .f32⟩
  | 9 => ⟨S4x65536x16x2, .f32⟩
  | 10 => ⟨S4x256x256x16x2, .f32⟩
  | 11 => ⟨S_, .i1⟩
  | 12 => ⟨S4x256x256x16, .i1⟩
  | 13 => ⟨S_, .i1⟩
  | 14 => ⟨S4x256x256x16, .i1⟩
  | 15 => ⟨S16, .i32⟩
  | 16 => ⟨S4x256x256x1, .i1⟩
  | 17 => ⟨S4x256x256, .i1⟩
  | 18 => ⟨S4x256x256, .i1⟩
  | 19 => ⟨S_, .i32⟩
  | 20 => ⟨S1, .i32⟩
  | 21 => ⟨S4x256x256x16, .i1⟩
  | 22 => ⟨S4x256x256x1x2, .f32⟩
  | 23 => ⟨S4x256x256x16x2, .f32⟩
  | 24 => ⟨S4x256x256x16x2, .f32⟩
  | 25 => ⟨S4x256x256x16x2, .f32⟩
  | 26 => ⟨S_, .f32⟩
  | 27 => ⟨S4x256x256x16, .f32⟩
  | 28 => ⟨S4x256x256x16, .f32⟩
  | 29 => ⟨S4x256x256x1, .i1⟩
  | 30 => ⟨S_, .i32⟩
  | 31 => ⟨S16, .i32⟩
  | 32 => ⟨S16, .i1⟩
  | 33 => ⟨S1x1x1x16, .i1⟩
  | 34 => ⟨S4x256x256x16, .i1⟩
  | 35 => ⟨S4x256x256x16, .i1⟩
  | 36 => ⟨S4x256x256x16, .i1⟩
  | 37 => ⟨S_, .f32⟩
  | 38 => ⟨S4x256x256x16, .f32⟩
  | 39 => ⟨S4x256x256x16, .i1⟩
  | 40 => ⟨S4x256x256x16, .i1⟩
  | 41 => ⟨S4x256x256x16, .i1⟩
  | 42 => ⟨S4x256x256x1, .i1⟩
  | 43 => ⟨S4x256x256, .i1⟩
  | 44 => ⟨S4x256x256, .i1⟩
  | 45 => ⟨S_, .i32⟩
  | 46 => ⟨S1, .i32⟩
  | 47 => ⟨S4x256x256x16, .i1⟩
  | 48 => ⟨S4x256x256x1x2, .f32⟩
  | 49 => ⟨S4x256x256x16x2, .f32⟩
  | 50 => ⟨S4x256x256x16x2, .f32⟩
  | 51 => ⟨S4x256x256x16x2, .f32⟩
  | 52 => ⟨S_, .f32⟩
  | 53 => ⟨S4x256x256x16, .f32⟩
  | 54 => ⟨S4x256x256x16, .f32⟩
  | 55 => ⟨S4x256x256x1, .i1⟩
  | 56 => ⟨S_, .i32⟩
  | 57 => ⟨S16, .i32⟩
  | 58 => ⟨S16, .i1⟩
  | 59 => ⟨S1x1x1x16, .i1⟩
  | 60 => ⟨S4x256x256x16, .i1⟩
  | 61 => ⟨S4x256x256x16, .i1⟩
  | 62 => ⟨S4x256x256x16, .i1⟩
  | 63 => ⟨S_, .f32⟩
  | 64 => ⟨S4x256x256x16, .f32⟩
  | 65 => ⟨S4x256x256x16, .i1⟩
  | 66 => ⟨S4x256x256x16, .i1⟩
  | 67 => ⟨S4x256x256x16, .i1⟩
  | 68 => ⟨S4x256x256x1, .i1⟩
  | 69 => ⟨S4x256x256, .i1⟩
  | 70 => ⟨S4x256x256, .i1⟩
  | 71 => ⟨S_, .i32⟩
  | 72 => ⟨S1, .i32⟩
  | 73 => ⟨S4x256x256x16, .i1⟩
  | 74 => ⟨S4x256x256x1x2, .f32⟩
  | 75 => ⟨S4x256x256x16x2, .f32⟩
  | 76 => ⟨S4x256x256x16x2, .f32⟩
  | 77 => ⟨S4x256x256x16x2, .f32⟩
  | 78 => ⟨S_, .f32⟩
  | 79 => ⟨S4x256x256x16, .f32⟩
  | 80 => ⟨S4x256x256x16, .f32⟩
  | 81 => ⟨S4x256x256x1, .i1⟩
  | 82 => ⟨S_, .i32⟩
  | 83 => ⟨S16, .i32⟩
  | 84 => ⟨S16, .i1⟩
  | 85 => ⟨S1x1x1x16, .i1⟩
  | 86 => ⟨S4x256x256x16, .i1⟩
  | 87 => ⟨S4x256x256x16, .i1⟩
  | 88 => ⟨S4x256x256x16, .i1⟩
  | 89 => ⟨S_, .f32⟩
  | 90 => ⟨S4x256x256x16, .f32⟩
  | 91 => ⟨S4x256x256x16, .i1⟩
  | 92 => ⟨S4x256x256x16, .i1⟩
  | 93 => ⟨S4x256x256x16, .i1⟩
  | 94 => ⟨S4x256x256x1, .i1⟩
  | 95 => ⟨S4x256x256, .i1⟩
  | 96 => ⟨S4x256x256, .i1⟩
  | 97 => ⟨S_, .i32⟩
  | 98 => ⟨S1, .i32⟩
  | 99 => ⟨S4x256x256x16, .i1⟩
  | 100 => ⟨S4x256x256x1x2, .f32⟩
  | 101 => ⟨S4x256x256x16x2, .f32⟩
  | 102 => ⟨S4x256x256x16x2, .f32⟩
  | 103 => ⟨S4x256x256x16x2, .f32⟩
  | 104 => ⟨S_, .f32⟩
  | 105 => ⟨S4x256x256x16, .f32⟩
  | 106 => ⟨S4x256x256x16, .f32⟩
  | 107 => ⟨S4x256x256x1, .i1⟩
  | 108 => ⟨S_, .i32⟩
  | 109 => ⟨S16, .i32⟩
  | 110 => ⟨S16, .i1⟩
  | 111 => ⟨S1x1x1x16, .i1⟩
  | 112 => ⟨S4x256x256x16, .i1⟩
  | 113 => ⟨S4x256x256x16, .i1⟩
  | 114 => ⟨S4x256x256x16, .i1⟩
  | 115 => ⟨S_, .f32⟩
  | 116 => ⟨S4x256x256x16, .f32⟩
  | 117 => ⟨S4x256x256x16, .i1⟩
  | 118 => ⟨S4x256x256x16, .i1⟩
  | 119 => ⟨S4x256x256x16, .i1⟩
  | 120 => ⟨S4x256x256x1, .i1⟩
  | 121 => ⟨S4x256x256, .i1⟩
  | 122 => ⟨S4x256x256, .i1⟩
  | 123 => ⟨S_, .i32⟩
  | 124 => ⟨S1, .i32⟩
  | 125 => ⟨S4x256x256x16, .i1⟩
  | 126 => ⟨S4x256x256x1x2, .f32⟩
  | 127 => ⟨S4x256x256x16x2, .f32⟩
  | _ => ⟨S4x16x3x256x256, .f32⟩

abbrev hbmTy0_1 (i : Nat) : BufTy := match i % 128 with
  | 0 => ⟨S4x256x256x16x2, .f32⟩
  | 1 => ⟨S4x256x256x16x2, .f32⟩
  | 2 => ⟨S_, .f32⟩
  | 3 => ⟨S4x256x256x16, .f32⟩
  | 4 => ⟨S4x256x256x16, .f32⟩
  | 5 => ⟨S4x256x256x1, .i1⟩
  | 6 => ⟨S_, .i32⟩
  | 7 => ⟨S16, .i32⟩
  | 8 => ⟨S16, .i1⟩
  | 9 => ⟨S1x1x1x16, .i1⟩
  | 10 => ⟨S4x256x256x16, .i1⟩
  | 11 => ⟨S4x256x256x16, .i1⟩
  | 12 => ⟨S4x256x256x16, .i1⟩
  | 13 => ⟨S_, .f32⟩
  | 14 => ⟨S4x256x256x16, .f32⟩
  | 15 => ⟨S4x256x256x16, .i1⟩
  | 16 => ⟨S4x256x256x16, .i1⟩
  | 17 => ⟨S4x256x256x16, .i1⟩
  | 18 => ⟨S4x256x256x1, .i1⟩
  | 19 => ⟨S4x256x256, .i1⟩
  | 20 => ⟨S4x256x256, .i1⟩
  | 21 => ⟨S_, .i32⟩
  | 22 => ⟨S1, .i32⟩
  | 23 => ⟨S4x256x256x16, .i1⟩
  | 24 => ⟨S4x256x256x1x2, .f32⟩
  | 25 => ⟨S4x256x256x16x2, .f32⟩
  | 26 => ⟨S4x256x256x16x2, .f32⟩
  | 27 => ⟨S4x256x256x16x2, .f32⟩
  | 28 => ⟨S_, .f32⟩
  | 29 => ⟨S4x256x256x16, .f32⟩
  | 30 => ⟨S4x256x256x16, .f32⟩
  | 31 => ⟨S4x256x256x1, .i1⟩
  | 32 => ⟨S_, .i32⟩
  | 33 => ⟨S16, .i32⟩
  | 34 => ⟨S16, .i1⟩
  | 35 => ⟨S1x1x1x16, .i1⟩
  | 36 => ⟨S4x256x256x16, .i1⟩
  | 37 => ⟨S4x256x256x16, .i1⟩
  | 38 => ⟨S4x256x256x16, .i1⟩
  | 39 => ⟨S_, .f32⟩
  | 40 => ⟨S4x256x256x16, .f32⟩
  | 41 => ⟨S4x256x256x16, .i1⟩
  | 42 => ⟨S4x256x256x16, .i1⟩
  | 43 => ⟨S4x256x256x16, .i1⟩
  | 44 => ⟨S4x256x256x1, .i1⟩
  | 45 => ⟨S4x256x256, .i1⟩
  | 46 => ⟨S4x256x256, .i1⟩
  | 47 => ⟨S_, .i32⟩
  | 48 => ⟨S1, .i32⟩
  | 49 => ⟨S4x256x256x16, .i1⟩
  | 50 => ⟨S4x256x256x1x2, .f32⟩
  | 51 => ⟨S4x256x256x16x2, .f32⟩
  | 52 => ⟨S4x256x256x16x2, .f32⟩
  | 53 => ⟨S4x256x256x16x2, .f32⟩
  | 54 => ⟨S_, .f32⟩
  | 55 => ⟨S4x256x256x16, .f32⟩
  | 56 => ⟨S4x256x256x16, .f32⟩
  | 57 => ⟨S4x256x256x1, .i1⟩
  | 58 => ⟨S_, .i32⟩
  | 59 => ⟨S16, .i32⟩
  | 60 => ⟨S16, .i1⟩
  | 61 => ⟨S1x1x1x16, .i1⟩
  | 62 => ⟨S4x256x256x16, .i1⟩
  | 63 => ⟨S4x256x256x16, .i1⟩
  | 64 => ⟨S4x256x256x16, .i1⟩
  | 65 => ⟨S_, .f32⟩
  | 66 => ⟨S4x256x256x16, .f32⟩
  | 67 => ⟨S4x256x256x16, .i1⟩
  | 68 => ⟨S4x256x256x16, .i1⟩
  | 69 => ⟨S4x256x256x16, .i1⟩
  | 70 => ⟨S4x256x256x1, .i1⟩
  | 71 => ⟨S4x256x256, .i1⟩
  | 72 => ⟨S4x256x256, .i1⟩
  | 73 => ⟨S_, .i32⟩
  | 74 => ⟨S1, .i32⟩
  | 75 => ⟨S4x256x256x16, .i1⟩
  | 76 => ⟨S4x256x256x1x2, .f32⟩
  | 77 => ⟨S4x256x256x16x2, .f32⟩
  | 78 => ⟨S4x256x256x16x2, .f32⟩
  | 79 => ⟨S4x256x256x16x2, .f32⟩
  | 80 => ⟨S_, .f32⟩
  | 81 => ⟨S4x256x256x16, .f32⟩
  | 82 => ⟨S4x256x256x16, .f32⟩
  | 83 => ⟨S4x256x256x1, .i1⟩
  | 84 => ⟨S_, .i32⟩
  | 85 => ⟨S16, .i32⟩
  | 86 => ⟨S16, .i1⟩
  | 87 => ⟨S1x1x1x16, .i1⟩
  | 88 => ⟨S4x256x256x16, .i1⟩
  | 89 => ⟨S4x256x256x16, .i1⟩
  | 90 => ⟨S4x256x256x16, .i1⟩
  | 91 => ⟨S_, .f32⟩
  | 92 => ⟨S4x256x256x16, .f32⟩
  | 93 => ⟨S4x256x256x16, .i1⟩
  | 94 => ⟨S4x256x256x16, .i1⟩
  | 95 => ⟨S4x256x256x16, .i1⟩
  | 96 => ⟨S4x256x256x1, .i1⟩
  | 97 => ⟨S4x256x256, .i1⟩
  | 98 => ⟨S4x256x256, .i1⟩
  | 99 => ⟨S_, .i32⟩
  | 100 => ⟨S1, .i32⟩
  | 101 => ⟨S4x256x256x16, .i1⟩
  | 102 => ⟨S4x256x256x1x2, .f32⟩
  | 103 => ⟨S4x256x256x16x2, .f32⟩
  | 104 => ⟨S4x256x256x16x2, .f32⟩
  | 105 => ⟨S4x256x256x16x2, .f32⟩
  | 106 => ⟨S_, .f32⟩
  | 107 => ⟨S4x256x256x16, .f32⟩
  | 108 => ⟨S4x256x256x16, .f32⟩
  | 109 => ⟨S4x256x256x1, .i1⟩
  | 110 => ⟨S_, .i32⟩
  | 111 => ⟨S16, .i32⟩
  | 112 => ⟨S16, .i1⟩
  | 113 => ⟨S1x1x1x16, .i1⟩
  | 114 => ⟨S4x256x256x16, .i1⟩
  | 115 => ⟨S4x256x256x16, .i1⟩
  | 116 => ⟨S4x256x256x16, .i1⟩
  | 117 => ⟨S_, .f32⟩
  | 118 => ⟨S4x256x256x16, .f32⟩
  | 119 => ⟨S4x256x256x16, .i1⟩
  | 120 => ⟨S4x256x256x16, .i1⟩
  | 121 => ⟨S4x256x256x16, .i1⟩
  | 122 => ⟨S4x256x256x1, .i1⟩
  | 123 => ⟨S4x256x256, .i1⟩
  | 124 => ⟨S4x256x256, .i1⟩
  | 125 => ⟨S_, .i32⟩
  | 126 => ⟨S1, .i32⟩
  | 127 => ⟨S4x256x256x16, .i1⟩
  | _ => ⟨S4x16x3x256x256, .f32⟩

abbrev hbmTy0_2 (i : Nat) : BufTy := match i % 128 with
  | 0 => ⟨S4x256x256x1x2, .f32⟩
  | 1 => ⟨S4x256x256x16x2, .f32⟩
  | 2 => ⟨S4x256x256x16x2, .f32⟩
  | 3 => ⟨S4x256x256x16x2, .f32⟩
  | 4 => ⟨S_, .f32⟩
  | 5 => ⟨S4x256x256x16, .f32⟩
  | 6 => ⟨S4x256x256x16, .f32⟩
  | 7 => ⟨S4x256x256x1, .i1⟩
  | 8 => ⟨S_, .i32⟩
  | 9 => ⟨S16, .i32⟩
  | 10 => ⟨S16, .i1⟩
  | 11 => ⟨S1x1x1x16, .i1⟩
  | 12 => ⟨S4x256x256x16, .i1⟩
  | 13 => ⟨S4x256x256x16, .i1⟩
  | 14 => ⟨S4x256x256x16, .i1⟩
  | 15 => ⟨S_, .f32⟩
  | 16 => ⟨S4x256x256x16, .f32⟩
  | 17 => ⟨S4x256x256x16, .i1⟩
  | 18 => ⟨S4x256x256x16, .i1⟩
  | 19 => ⟨S4x256x256x16, .i1⟩
  | 20 => ⟨S4x256x256x1, .i1⟩
  | 21 => ⟨S4x256x256, .i1⟩
  | 22 => ⟨S4x256x256, .i1⟩
  | 23 => ⟨S_, .i32⟩
  | 24 => ⟨S1, .i32⟩
  | 25 => ⟨S4x256x256x16, .i1⟩
  | 26 => ⟨S4x256x256x1x2, .f32⟩
  | 27 => ⟨S4x256x256x16x2, .f32⟩
  | 28 => ⟨S4x256x256x16x2, .f32⟩
  | 29 => ⟨S4x256x256x16x2, .f32⟩
  | 30 => ⟨S_, .f32⟩
  | 31 => ⟨S4x256x256x16, .f32⟩
  | 32 => ⟨S4x256x256x16, .f32⟩
  | 33 => ⟨S4x256x256x1, .i1⟩
  | 34 => ⟨S_, .i32⟩
  | 35 => ⟨S16, .i32⟩
  | 36 => ⟨S16, .i1⟩
  | 37 => ⟨S1x1x1x16, .i1⟩
  | 38 => ⟨S4x256x256x16, .i1⟩
  | 39 => ⟨S4x256x256x16, .i1⟩
  | 40 => ⟨S4x256x256x16, .i1⟩
  | 41 => ⟨S_, .f32⟩
  | 42 => ⟨S4x256x256x16, .f32⟩
  | 43 => ⟨S4x256x256x16, .i1⟩
  | 44 => ⟨S4x256x256x16, .i1⟩
  | 45 => ⟨S4x256x256x16, .i1⟩
  | 46 => ⟨S4x256x256x1, .i1⟩
  | 47 => ⟨S4x256x256, .i1⟩
  | 48 => ⟨S4x256x256, .i1⟩
  | 49 => ⟨S_, .i32⟩
  | 50 => ⟨S1, .i32⟩
  | 51 => ⟨S4x256x256x16, .i1⟩
  | 52 => ⟨S4x256x256x1x2, .f32⟩
  | 53 => ⟨S4x256x256x16x2, .f32⟩
  | 54 => ⟨S4x256x256x16x2, .f32⟩
  | 55 => ⟨S4x256x256x16x2, .f32⟩
  | 56 => ⟨S_, .f32⟩
  | 57 => ⟨S4x256x256x16, .f32⟩
  | 58 => ⟨S4x256x256x16, .f32⟩
  | 59 => ⟨S4x256x256x1, .i1⟩
  | 60 => ⟨S_, .i32⟩
  | 61 => ⟨S16, .i32⟩
  | 62 => ⟨S16, .i1⟩
  | 63 => ⟨S1x1x1x16, .i1⟩
  | 64 => ⟨S4x256x256x16, .i1⟩
  | 65 => ⟨S4x256x256x16, .i1⟩
  | 66 => ⟨S4x256x256x16, .i1⟩
  | 67 => ⟨S_, .f32⟩
  | 68 => ⟨S4x256x256x16, .f32⟩
  | 69 => ⟨S4x256x256x16, .i1⟩
  | 70 => ⟨S4x256x256x16, .i1⟩
  | 71 => ⟨S4x256x256x16, .i1⟩
  | 72 => ⟨S4x256x256x1, .i1⟩
  | 73 => ⟨S4x256x256, .i1⟩
  | 74 => ⟨S4x256x256, .i1⟩
  | 75 => ⟨S_, .i32⟩
  | 76 => ⟨S1, .i32⟩
  | 77 => ⟨S4x256x256x16, .i1⟩
  | 78 => ⟨S4x256x256x1x2, .f32⟩
  | 79 => ⟨S4x256x256x16x2, .f32⟩
  | 80 => ⟨S4x256x256x16x2, .f32⟩
  | 81 => ⟨S4x256x256x16x2, .f32⟩
  | 82 => ⟨S_, .f32⟩
  | 83 => ⟨S4x256x256x16, .f32⟩
  | 84 => ⟨S4x256x256x16, .f32⟩
  | 85 => ⟨S4x256x256x1, .i1⟩
  | 86 => ⟨S_, .i32⟩
  | 87 => ⟨S16, .i32⟩
  | 88 => ⟨S16, .i1⟩
  | 89 => ⟨S1x1x1x16, .i1⟩
  | 90 => ⟨S4x256x256x16, .i1⟩
  | 91 => ⟨S4x256x256x16, .i1⟩
  | 92 => ⟨S4x256x256x16, .i1⟩
  | 93 => ⟨S_, .f32⟩
  | 94 => ⟨S4x256x256x16, .f32⟩
  | 95 => ⟨S4x256x256x16, .i1⟩
  | 96 => ⟨S4x256x256x16, .i1⟩
  | 97 => ⟨S4x256x256x16, .i1⟩
  | 98 => ⟨S4x256x256x1, .i1⟩
  | 99 => ⟨S4x256x256, .i1⟩
  | 100 => ⟨S4x256x256, .i1⟩
  | 101 => ⟨S_, .i32⟩
  | 102 => ⟨S1, .i32⟩
  | 103 => ⟨S4x256x256x16, .i1⟩
  | 104 => ⟨S4x256x256x1x2, .f32⟩
  | 105 => ⟨S4x256x256x16x2, .f32⟩
  | 106 => ⟨S4x256x256x16x2, .f32⟩
  | 107 => ⟨S4x256x256x16x2, .f32⟩
  | 108 => ⟨S_, .f32⟩
  | 109 => ⟨S4x256x256x16, .f32⟩
  | 110 => ⟨S4x256x256x16, .f32⟩
  | 111 => ⟨S4x256x256x1, .i1⟩
  | 112 => ⟨S_, .i32⟩
  | 113 => ⟨S16, .i32⟩
  | 114 => ⟨S16, .i1⟩
  | 115 => ⟨S1x1x1x16, .i1⟩
  | 116 => ⟨S4x256x256x16, .i1⟩
  | 117 => ⟨S4x256x256x16, .i1⟩
  | 118 => ⟨S4x256x256x16, .i1⟩
  | 119 => ⟨S_, .f32⟩
  | 120 => ⟨S4x256x256x16, .f32⟩
  | 121 => ⟨S4x256x256x16, .i1⟩
  | 122 => ⟨S4x256x256x16, .i1⟩
  | 123 => ⟨S4x256x256x16, .i1⟩
  | 124 => ⟨S4x256x256x1, .i1⟩
  | 125 => ⟨S4x256x256, .i1⟩
  | 126 => ⟨S4x256x256, .i1⟩
  | 127 => ⟨S_, .i32⟩
  | _ => ⟨S4x16x3x256x256, .f32⟩

abbrev hbmTy0_3 (i : Nat) : BufTy := match i % 128 with
  | 0 => ⟨S1, .i32⟩
  | 1 => ⟨S4x256x256x16, .i1⟩
  | 2 => ⟨S4x256x256x1x2, .f32⟩
  | 3 => ⟨S4x256x256x16x2, .f32⟩
  | 4 => ⟨S4x256x256x16x2, .f32⟩
  | 5 => ⟨S4x256x256x16x2, .f32⟩
  | 6 => ⟨S_, .f32⟩
  | 7 => ⟨S4x256x256x16, .f32⟩
  | 8 => ⟨S4x256x256x16, .f32⟩
  | 9 => ⟨S4x256x256x1, .i1⟩
  | 10 => ⟨S_, .i32⟩
  | 11 => ⟨S16, .i32⟩
  | 12 => ⟨S16, .i1⟩
  | 13 => ⟨S1x1x1x16, .i1⟩
  | 14 => ⟨S4x256x256x16, .i1⟩
  | 15 => ⟨S4x256x256x16, .i1⟩
  | 16 => ⟨S4x256x256x16, .i1⟩
  | 17 => ⟨S_, .f32⟩
  | 18 => ⟨S4x256x256x16, .f32⟩
  | 19 => ⟨S4x256x256x16, .i1⟩
  | 20 => ⟨S4x256x256x16, .i1⟩
  | 21 => ⟨S4x256x256x16, .i1⟩
  | 22 => ⟨S4x256x256x1, .i1⟩
  | 23 => ⟨S4x256x256, .i1⟩
  | 24 => ⟨S4x256x256, .i1⟩
  | 25 => ⟨S_, .i32⟩
  | 26 => ⟨S1, .i32⟩
  | 27 => ⟨S4x256x256x16, .i1⟩
  | 28 => ⟨S4x256x256x1x2, .f32⟩
  | 29 => ⟨S4x256x256x16x2, .f32⟩
  | 30 => ⟨S4x256x256x16x2, .f32⟩
  | 31 => ⟨S4x256x256x16x2, .f32⟩
  | 32 => ⟨S_, .f32⟩
  | 33 => ⟨S4x256x256x16, .f32⟩
  | 34 => ⟨S4x256x256x16, .f32⟩
  | 35 => ⟨S4x256x256x1, .i1⟩
  | 36 => ⟨S_, .i32⟩
  | 37 => ⟨S16, .i32⟩
  | 38 => ⟨S16, .i1⟩
  | 39 => ⟨S1x1x1x16, .i1⟩
  | 40 => ⟨S4x256x256x16, .i1⟩
  | 41 => ⟨S4x256x256x16, .i1⟩
  | 42 => ⟨S4x256x256x16, .i1⟩
  | 43 => ⟨S_, .f32⟩
  | 44 => ⟨S4x256x256x16, .f32⟩
  | 45 => ⟨S4x256x256x16, .i1⟩
  | 46 => ⟨S4x256x256x16, .i1⟩
  | 47 => ⟨S4x256x256x16, .i1⟩
  | 48 => ⟨S16, .i32⟩
  | 49 => ⟨S_, .i32⟩
  | 50 => ⟨S16, .i32⟩
  | 51 => ⟨S16, .i32⟩
  | 52 => ⟨S4x256x256x16, .i32⟩
  | 53 => ⟨S4x256x256x16, .i32⟩
  | 54 => ⟨S4x256x256x16, .i32⟩
  | 55 => ⟨S4x256x256x16, .i32⟩
  | 56 => ⟨S4x256x256x16, .i32⟩
  | 57 => ⟨S4x256x256x16, .i32⟩
  | 58 => ⟨S4x256x256x4, .i32⟩
  | _ => ⟨S4x16x3x256x256, .f32⟩

abbrev hbmTy (i : Nat) : BufTy := match i / 128 with
  | 0 => hbmTy0_0 i
  | 1 => hbmTy0_1 i
  | 2 => hbmTy0_2 i
  | 3 => hbmTy0_3 i
  | _ => ⟨S4x16x3x256x256, .f32⟩

abbrev bufTy : (tb : Table) → Fin (tcTables nBuf tb) → BufTy
  | .hbm, ⟨i, _⟩ => hbmTy i
  | _, _ => ⟨S4x16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_10 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c_12 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_13 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_c_14 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_15 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c_16 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_17 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_18 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_19 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_c_20 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_cst_21 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_c_22 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_23 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_c_24 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_25 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_c_26 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_27 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_28 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_cst_29 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_c_30 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_cst_31 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_c_32 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_cst_33 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_c_34 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_cst_35 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_c_36 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_cst_37 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_c_38 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_cst_39 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_c_40 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_cst_41 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_c_42 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_cst_43 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_c_44 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_cst_45 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_c_46 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_cst_47 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_c_48 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_cst_49 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_c_50 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_cst_51 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_c_52 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_cst_53 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_c_54 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_cst_55 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_c_56 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_cst_57 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_c_58 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_cst_59 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_c_60 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_v348 : Ref sig .tc := ⟨.hbm, 413, rfl⟩
abbrev main_v349 : Ref sig .tc := ⟨.hbm, 414, rfl⟩
abbrev main_v350 : Ref sig .tc := ⟨.hbm, 415, rfl⟩
abbrev main_cst_61 : Ref sig .tc := ⟨.hbm, 416, rfl⟩
abbrev main_v351 : Ref sig .tc := ⟨.hbm, 417, rfl⟩
abbrev main_v352 : Ref sig .tc := ⟨.hbm, 418, rfl⟩
abbrev main_v353 : Ref sig .tc := ⟨.hbm, 419, rfl⟩
abbrev main_c_62 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_cst_63 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_c_64 : Ref sig .tc := ⟨.hbm, 433, rfl⟩
abbrev main_v365 : Ref sig .tc := ⟨.hbm, 434, rfl⟩
abbrev main_v366 : Ref sig .tc := ⟨.hbm, 435, rfl⟩
abbrev main_call0_v0 : Ref sig .tc := ⟨.hbm, 436, rfl⟩
abbrev main_call0_v1 : Ref sig .tc := ⟨.hbm, 437, rfl⟩
abbrev main_v367 : Ref sig .tc := ⟨.hbm, 438, rfl⟩
abbrev main_call1_v0 : Ref sig .tc := ⟨.hbm, 439, rfl⟩
abbrev main_call1_v1_0 : Ref sig .tc := ⟨.hbm, 440, rfl⟩
abbrev main_v368 : Ref sig .tc := ⟨.hbm, 441, rfl⟩
abbrev main_v369 : Ref sig .tc := ⟨.hbm, 442, rfl⟩

abbrev nD : Nat := 1
abbrev τ : Topo := Topo.v7x

variable {F : FTy → Type} [FloatOps F]
-- ==== Proof.NmsMask.lean ====
module

public import Idealize.ShloMosaic.Lib.Tactic

@[expose] public section

/-! The suppression of one pixel group with one-bit masks and the distance itself, over vectors of any shape and any float
instance: the form the TensorCore call computes it in.  `X m` and `Y m` are the projected coordinates of candidate `m`. -/

noncomputable section

namespace Cert.Proof.NmsMask

open Idealize.ShloMosaic

variable {F : FTy → Type} [FloatOps F] {s : Shape}

/-- Whether candidates `m` and `j` are within distance two. -/
def nearV (X Y : ℕ → FVec F s .f32) (m j : ℕ) : IVec s 1 :=
  cmpf .ole (sqrt (addf (mulf (subf (X j) (X m)) (subf (X j) (X m))) (mulf (subf (Y j) (Y m)) (subf (Y j) (Y m)))))
    (broadcast s (FloatOps.ofBits .f32 0x40000000#32))

/-- Whether candidate `j` is suppressed by one of the candidates `0` to `m`. -/
def supV (X Y : ℕ → FVec F s .f32) : ℕ → ℕ → IVec s 1
  | 0, j => andi (broadcast s 1#1) (nearV X Y 0 j)
  | m + 1, j => ori (supV X Y m j) (andi (xori (supV X Y m (m + 1)) (constantI s 1 1#1)) (nearV X Y (m + 1) j))

/-- Whether candidate `m` is kept. -/
def keepV (X Y : ℕ → FVec F s .f32) : ℕ → IVec s 1
  | 0 => broadcast s 1#1
  | m + 1 => xori (supV X Y m (m + 1)) (constantI s 1 1#1)

/-- How many candidates before `m` are kept. -/
def cntV (X Y : ℕ → FVec F s .f32) : ℕ → IVec s 32
  | 0 => broadcast s 0#32
  | m + 1 => addi (cntV X Y m) (extui 32 (keepV X Y m) (by decide))

/-- The rank of candidate `m`, whose number is the word `c`. -/
def rankV (X Y : ℕ → FVec F s .f32) (m : ℕ) (c : BitVec 32) : IVec s 32 :=
  select (keepV X Y m) (cntV X Y m) (addi (cntV X Y 16) (subi (broadcast s c) (cntV X Y m)))

/-- The candidate of rank `k` among the first `m`. -/
def outV (X Y : ℕ → FVec F s .f32) (k : ℕ) : ℕ → IVec s 32
  | 0 => broadcast s 0#32
  | m + 1 => ori (outV X Y k m) (select (cmpi .eq (rankV X Y m (BitVec.ofNat 32 m)) (broadcast s (BitVec.ofNat 32 k)))
      (broadcast s (BitVec.ofNat 32 m)) (broadcast s 0#32))

/-! A lane of the vectors is a computation on that lane's numbers alone. -/

section Lane

variable {s' : Shape} {X Y : ℕ → FVec F s .f32} {X' Y' : ℕ → FVec F s' .f32} {i : s.Idx} {i' : s'.Idx}

theorem nearV_congr (hX : ∀ m, X m i = X' m i') (hY : ∀ m, Y m i = Y' m i') (m j : ℕ) :
    nearV X Y m j i = nearV X' Y' m j i' := by
  simp only [nearV, cmpf, sqrt, addf, mulf, subf, broadcast, hX, hY]

theorem supV_congr (hX : ∀ m, X m i = X' m i') (hY : ∀ m, Y m i = Y' m i') (m : ℕ) :
    ∀ j, supV X Y m j i = supV X' Y' m j i' := by
  induction m with
  | zero => intro j; simp only [supV, andi, broadcast, nearV_congr hX hY]
  | succ m ih => intro j; simp only [supV, ori, andi, xori, constantI, broadcast, ih, nearV_congr hX hY]

theorem keepV_congr (hX : ∀ m, X m i = X' m i') (hY : ∀ m, Y m i = Y' m i') (m : ℕ) :
    keepV X Y m i = keepV X' Y' m i' := by
  cases m with
  | zero => rfl
  | succ m => simp only [keepV, xori, constantI, broadcast, supV_congr hX hY]

theorem cntV_congr (hX : ∀ m, X m i = X' m i') (hY : ∀ m, Y m i = Y' m i') (m : ℕ) :
    cntV X Y m i = cntV X' Y' m i' := by
  induction m with
  | zero => rfl
  | succ m ih => simp only [cntV, addi, extui, ih, keepV_congr hX hY]

theorem rankV_congr (hX : ∀ m, X m i = X' m i') (hY : ∀ m, Y m i = Y' m i') (m : ℕ) (c : BitVec 32) :
    rankV X Y m c i = rankV X' Y' m c i' := by
  simp only [rankV, select, addi, subi, broadcast, cntV_congr hX hY, keepV_congr hX hY]

theorem outV_congr (hX : ∀ m, X m i = X' m i') (hY : ∀ m, Y m i = Y' m i') (k m : ℕ) :
    outV X Y k m i = outV X' Y' k m i' := by
  induction m with
  | zero => rfl
  | succ m ih => simp only [outV, ori, select, cmpi, broadcast, ih, rankV_congr hX hY]

end Lane

/-- Result `k` of one pixel whose candidates project to `(x m, y m)`. -/
def pix (x y : ℕ → F .f32) (k : ℕ) : BitVec 32 :=
  outV (s := ⟨0, ![]⟩) (fun m _ => x m) (fun m _ => y m) k 16 (fun a => a.elim0)

theorem outV_apply (X Y : ℕ → FVec F s .f32) (k : ℕ) (i : s.Idx) :
    outV X Y k 16 i = pix (fun m => X m i) (fun m => Y m i) k :=
  outV_congr (fun _ => rfl) (fun _ => rfl) k 16

/-! The definitions read backwards, to gather a printed computation into them. -/

variable (X Y : ℕ → FVec F s .f32)

theorem sup_zero (j : ℕ) : andi (broadcast s 1#1) (nearV X Y 0 j) = supV X Y 0 j := by rw [supV]
theorem sup_succ (m j : ℕ) :
    ori (supV X Y m j) (andi (keepV X Y (m + 1)) (nearV X Y (m + 1) j)) = supV X Y (m + 1) j := by rw [supV, keepV]
theorem keep_succ (m : ℕ) : xori (supV X Y m (m + 1)) (constantI s 1 1#1) = keepV X Y (m + 1) := by rw [keepV]
theorem cnt_one (h : 1 < 32) : addi (broadcast s 0#32) (extui 32 (broadcast s 1#1) h) = cntV X Y 1 := by
  rw [cntV, cntV, keepV]
theorem cnt_succ (m : ℕ) (h : 1 < 32) : addi (cntV X Y m) (extui 32 (keepV X Y m) h) = cntV X Y (m + 1) := by rw [cntV]
theorem rank_zero : select (broadcast s 1#1) (broadcast s 0#32)
    (addi (cntV X Y 16) (subi (broadcast s 0#32) (broadcast s 0#32))) = rankV X Y 0 0#32 := by
  rw [rankV, keepV, show cntV X Y 0 = broadcast s 0#32 from rfl]
theorem rank_fold (m : ℕ) (c : BitVec 32) : select (keepV X Y m) (cntV X Y m)
    (addi (cntV X Y 16) (subi (broadcast s c) (cntV X Y m))) = rankV X Y m c := by rw [rankV]

end Cert.Proof.NmsMask

end
-- ==== Proof.Nms.lean ====
module

public import Idealize.ShloMosaic.Lib.Tactic

@[expose] public section

/-! The suppression of one pixel group, written over vectors of any shape and any float instance.

`X m` and `Y m` are the projected coordinates of candidate `m`.  Sixteen candidates are walked in
order; a candidate still kept suppresses every later one within distance two, and the four results
are the candidates of rank `0` to `3`, the kept ones first. -/

noncomputable section

namespace Cert.Proof.Nms

open Idealize.ShloMosaic

variable {F : FTy → Type} [FloatOps F] {s : Shape}

/-- Candidate `m` with mask `km` against candidate `j`: the mask where they are close, else zero. -/
def hitV (X Y : ℕ → FVec F s .f32) (km : IVec s 32) (m j : ℕ) : IVec s 32 :=
  select (cmpf .ole (addf (mulf (subf (X j) (X m)) (subf (X j) (X m)))
      (mulf (subf (Y j) (Y m)) (subf (Y j) (Y m)))) (broadcast s (Scalar.ofBits .f32 0x40800000#32)))
    km (broadcast s 0#32)

/-- Whether candidate `j` is suppressed by one of the candidates `0` to `m`. -/
def supV (X Y : ℕ → FVec F s .f32) : ℕ → ℕ → IVec s 32
  | 0, j => hitV X Y (broadcast s 1#32) 0 j
  | m + 1, j => ori (supV X Y m j) (hitV X Y (subi (broadcast s 1#32) (supV X Y m (m + 1))) (m + 1) j)

/-- Whether candidate `m` is kept. -/
def keepV (X Y : ℕ → FVec F s .f32) : ℕ → IVec s 32
  | 0 => broadcast s 1#32
  | m + 1 => subi (broadcast s 1#32) (supV X Y m (m + 1))

/-- How many candidates before `m` are kept. -/
def cntV (X Y : ℕ → FVec F s .f32) : ℕ → IVec s 32
  | 0 => broadcast s 0#32
  | m + 1 => addi (cntV X Y m) (keepV X Y m)

/-- The rank of candidate `m`, whose number is the word `c`. -/
def rankV (X Y : ℕ → FVec F s .f32) (m : ℕ) (c : BitVec 32) : IVec s 32 :=
  select (cmpi .eq (keepV X Y m) (broadcast s 1#32)) (cntV X Y m)
    (addi (cntV X Y 16) (subi (broadcast s c) (cntV X Y m)))

/-- The candidate of rank `k` among the first `m`. -/
def outV (X Y : ℕ → FVec F s .f32) (k : ℕ) : ℕ → IVec s 32
  | 0 => broadcast s 0#32
  | m + 1 => ori (outV X Y k m) (select (cmpi .eq (rankV X Y m (BitVec.ofNat 32 m)) (broadcast s (BitVec.ofNat 32 k)))
      (broadcast s (BitVec.ofNat 32 m)) (broadcast s 0#32))

/-! A lane of the vectors is a computation on that lane's numbers alone. -/

section Lane

variable {s' : Shape} {X Y : ℕ → FVec F s .f32} {X' Y' : ℕ → FVec F s' .f32} {i : s.Idx} {i' : s'.Idx}

theorem hitV_congr (hX : ∀ m, X m i = X' m i') (hY : ∀ m, Y m i = Y' m i') {km : IVec s 32} {km' : IVec s' 32}
    (h : km i = km' i') (m j : ℕ) : hitV X Y km m j i = hitV X' Y' km' m j i' := by
  simp only [hitV, select, cmpf, addf, mulf, subf, broadcast, hX, hY, h]

theorem supV_congr (hX : ∀ m, X m i = X' m i') (hY : ∀ m, Y m i = Y' m i') (m : ℕ) :
    ∀ j, supV X Y m j i = supV X' Y' m j i' := by
  induction m with
  | zero => intro j; exact hitV_congr hX hY rfl 0 j
  | succ m ih =>
    intro j
    have hk : subi (broadcast s 1#32) (supV X Y m (m + 1)) i = subi (broadcast s' 1#32) (supV X' Y' m (m + 1)) i' := by
      simp only [subi, broadcast, ih]
    have hh := hitV_congr hX hY hk (m + 1) j
    simp only [supV, ori, ih, hh]

theorem keepV_congr (hX : ∀ m, X m i = X' m i') (hY : ∀ m, Y m i = Y' m i') (m : ℕ) :
    keepV X Y m i = keepV X' Y' m i' := by
  cases m with
  | zero => rfl
  | succ m => simp only [keepV, subi, broadcast, supV_congr hX hY]

theorem cntV_congr (hX : ∀ m, X m i = X' m i') (hY : ∀ m, Y m i = Y' m i') (m : ℕ) :
    cntV X Y m i = cntV X' Y' m i' := by
  induction m with
  | zero => rfl
  | succ m ih => simp only [cntV, addi, ih, keepV_congr hX hY]

theorem rankV_congr (hX : ∀ m, X m i = X' m i') (hY : ∀ m, Y m i = Y' m i') (m : ℕ) (c : BitVec 32) :
    rankV X Y m c i = rankV X' Y' m c i' := by
  simp only [rankV, select, cmpi, addi, subi, broadcast, cntV_congr hX hY, keepV_congr hX hY]

theorem outV_congr (hX : ∀ m, X m i = X' m i') (hY : ∀ m, Y m i = Y' m i') (k m : ℕ) :
    outV X Y k m i = outV X' Y' k m i' := by
  induction m with
  | zero => rfl
  | succ m ih => simp only [outV, ori, select, cmpi, broadcast, ih, rankV_congr hX hY]

end Lane

/-- The shape of one number. -/
abbrev S0 : Shape := ⟨0, ![]⟩

/-- Result `k` of one pixel whose candidates project to `(x m, y m)`. -/
def pix (x y : ℕ → F .f32) (k : ℕ) : BitVec 32 :=
  outV (s := S0) (fun m _ => x m) (fun m _ => y m) k 16 (fun a => a.elim0)

theorem outV_apply (X Y : ℕ → FVec F s .f32) (k : ℕ) (i : s.Idx) :
    outV X Y k 16 i = pix (fun m => X m i) (fun m => Y m i) k :=
  outV_congr (fun _ => rfl) (fun _ => rfl) k 16

/-! The definitions read backwards, to gather a printed computation into them. -/

variable (X Y : ℕ → FVec F s .f32)

theorem sup_zero (j : ℕ) : hitV X Y (broadcast s 1#32) 0 j = supV X Y 0 j := by rw [supV]
theorem sup_succ (m j : ℕ) :
    ori (supV X Y m j) (hitV X Y (keepV X Y (m + 1)) (m + 1) j) = supV X Y (m + 1) j := by
  rw [supV, keepV]
theorem keep_succ (m : ℕ) : subi (broadcast s 1#32) (supV X Y m (m + 1)) = keepV X Y (m + 1) := by rw [keepV]
theorem cnt_one : addi (broadcast s 0#32) (broadcast s 1#32) = cntV X Y 1 := by rw [cntV, cntV, keepV]
theorem cnt_succ (m : ℕ) : addi (cntV X Y m) (keepV X Y m) = cntV X Y (m + 1) := by rw [cntV]
theorem rank_zero : select (cmpi .eq (broadcast s 1#32) (broadcast s 1#32)) (broadcast s 0#32)
    (addi (cntV X Y 16) (subi (broadcast s 0#32) (broadcast s 0#32))) = rankV X Y 0 0#32 := by
  rw [rankV, keepV, show cntV X Y 0 = broadcast s 0#32 from rfl]
theorem rank_fold (m : ℕ) (c : BitVec 32) : select (cmpi .eq (keepV X Y m) (broadcast s 1#32)) (cntV X Y m)
    (addi (cntV X Y 16) (subi (broadcast s c) (cntV X Y m))) = rankV X Y m c := by rw [rankV]

end Cert.Proof.Nms

end
-- ==== Proof.KernelIdeal.Base.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

/-! The ghost state of the proofs: the launch's rounds, the pipeline's, and counters. -/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev 𝒱₀ : Variants := Variants.none
abbrev UH : Type := URounds (GSem nD τ sig) ℕ
abbrev UP : Type := URounds (GSem nD τ sig) Unit
abbrev UU : Type := UH × (UP × Counters)

end Cert.Proof.KernelIdeal

end
-- ==== Proof.KernelIdeal.TcRun.lean ====
module

public import proofs.«01_k».proof.Proof.KernelIdeal.Base

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The body of the TensorCore call on a staged input block and a staged output block: it runs, the input is kept, and
    the output is written over by the pieces the run finds. -/
def tcRun (c : Dev nD) (i : grid1.Coords) (arg2 : Memref sig .tc .vmem S1x16x3x32x256 .f32) (harg2 : arg2.IsWhole)
    (arg3 : Memref sig .tc .vmem S1x4x32x256 .i32) (harg3 : arg3.IsWhole)
    (B : Buf (Elt F) (arg2.view.loc (T c))) (f : Buf (Elt F) (arg3.view.loc (T c))) :
    { P : List (View.Piece (Elt F) S1x4x32x256 .i32) //
    iprop((arg2.view.loc (T c) ↦[arg2.view.set]{fullShare} B : sProp 𝕄) ∗ (arg3.view.loc (T c) ↦[arg3.view.set]{fullShare} f))
      ⊢ wp frame (wpE (defs₀ (F := F)) 𝒱₀ (T c) none) Set.univ (cc1__nms_body_tc i arg2 harg2 arg3 harg3)
          fun _ => iprop((arg2.view.loc (T c) ↦[arg2.view.set]{fullShare} B : sProp 𝕄)
            ∗ (arg3.view.loc (T c) ↦[arg3.view.set]{fullShare} (arg3.view.writes (Elt F) f P))) } := by
  refine ⟨?_, ?run⟩
  case run =>
    iintro ⟨Hb, Hr⟩
    simp only [cc1__nms_body_tc_eq_skeleton]; unfold cc1__nms_body_tc_skel
    sl_exec_parts
    sl_step
    isplitl [Hb]; · iexact Hb
    iexact Hr

end Cert.Proof.KernelIdeal

end
-- ==== Proof.KernelIdeal.TcValue.lean ====
module

public import proofs.«01_k».proof.Proof.KernelIdeal.TcRun
public import proofs.«01_k».proof.Proof.NmsMask

@[expose] public section

/-! What the TensorCore body computes: the four stored planes are `NmsMask.outV` of the projected coordinates. -/

set_option maxRecDepth 4000

noncomputable section

namespace Cert.Proof.KernelIdeal

open Cert.KernelIdeal Cert.KernelIdeal.Gen
open Idealize.ShloMosaic
open Idealize.ShloMosaic.SparseCore (S V T)
open Cert.Proof.NmsMask

variable {F : FTy → Type} [FloatOps F]
variable (c : Dev nD) (arg2 : Memref sig .tc .vmem S1x16x3x32x256 .f32) (B : Buf (Elt F) (arg2.view.loc (T c)))

/-- The first projected coordinates of a block, by candidate. -/
def txs : ℕ → FVec F S32x256 .f32
  | 0 => tcRun.sl.r c arg2 B
  | 1 => tcRun.sl.r_2 c arg2 B
  | 2 => tcRun.sl.r_5 c arg2 B
  | 3 => tcRun.sl.r_7 c arg2 B
  | 4 => tcRun.sl.r_9 c arg2 B
  | 5 => tcRun.sl.r_11 c arg2 B
  | 6 => tcRun.sl.r_13 c arg2 B
  | 7 => tcRun.sl.r_17 c arg2 B
  | 8 => tcRun.sl.r_19 c arg2 B
  | 9 => tcRun.sl.r_21 c arg2 B
  | 10 => tcRun.sl.r_24 c arg2 B
  | 11 => tcRun.sl.r_26 c arg2 B
  | 12 => tcRun.sl.r_30 c arg2 B
  | 13 => tcRun.sl.r_32 c arg2 B
  | 14 => tcRun.sl.r_34 c arg2 B
  | _ => tcRun.sl.r_38 c arg2 B

/-- The second projected coordinates of a block, by candidate. -/
def tys : ℕ → FVec F S32x256 .f32
  | 0 => tcRun.sl.r_1 c arg2 B
  | 1 => tcRun.sl.r_3 c arg2 B
  | 2 => tcRun.sl.r_6 c arg2 B
  | 3 => tcRun.sl.r_8 c arg2 B
  | 4 => tcRun.sl.r_10 c arg2 B
  | 5 => tcRun.sl.r_12 c arg2 B
  | 6 => tcRun.sl.r_14 c arg2 B
  | 7 => tcRun.sl.r_18 c arg2 B
  | 8 => tcRun.sl.r_20 c arg2 B
  | 9 => tcRun.sl.r_22 c arg2 B
  | 10 => tcRun.sl.r_25 c arg2 B
  | 11 => tcRun.sl.r_27 c arg2 B
  | 12 => tcRun.sl.r_31 c arg2 B
  | 13 => tcRun.sl.r_33 c arg2 B
  | 14 => tcRun.sl.r_35 c arg2 B
  | _ => tcRun.sl.r_39 c arg2 B

theorem txs_eq : tcRun.sl.r c arg2 B = txs c arg2 B 0 ∧
    tcRun.sl.r_2 c arg2 B = txs c arg2 B 1 ∧
    tcRun.sl.r_5 c arg2 B = txs c arg2 B 2 ∧
    tcRun.sl.r_7 c arg2 B = txs c arg2 B 3 ∧
    tcRun.sl.r_9 c arg2 B = txs c arg2 B 4 ∧
    tcRun.sl.r_11 c arg2 B = txs c arg2 B 5 ∧
    tcRun.sl.r_13 c arg2 B = txs c arg2 B 6 ∧
    tcRun.sl.r_17 c arg2 B = txs c arg2 B 7 ∧
    tcRun.sl.r_19 c arg2 B = txs c arg2 B 8 ∧
    tcRun.sl.r_21 c arg2 B = txs c arg2 B 9 ∧
    tcRun.sl.r_24 c arg2 B = txs c arg2 B 10 ∧
    tcRun.sl.r_26 c arg2 B = txs c arg2 B 11 ∧
    tcRun.sl.r_30 c arg2 B = txs c arg2 B 12 ∧
    tcRun.sl.r_32 c arg2 B = txs c arg2 B 13 ∧
    tcRun.sl.r_34 c arg2 B = txs c arg2 B 14 ∧
    tcRun.sl.r_38 c arg2 B = txs c arg2 B 15 :=
  ⟨rfl, rfl, rfl, rfl, rfl, rfl, rfl, rfl, rfl, rfl, rfl, rfl, rfl, rfl, rfl, rfl⟩

theorem tys_eq : tcRun.sl.r_1 c arg2 B = tys c arg2 B 0 ∧
    tcRun.sl.r_3 c arg2 B = tys c arg2 B 1 ∧
    tcRun.sl.r_6 c arg2 B = tys c arg2 B 2 ∧
    tcRun.sl.r_8 c arg2 B = tys c arg2 B 3 ∧
    tcRun.sl.r_10 c arg2 B = tys c arg2 B 4 ∧
    tcRun.sl.r_12 c arg2 B = tys c arg2 B 5 ∧
    tcRun.sl.r_14 c arg2 B = tys c arg2 B 6 ∧
    tcRun.sl.r_18 c arg2 B = tys c arg2 B 7 ∧
    tcRun.sl.r_20 c arg2 B = tys c arg2 B 8 ∧
    tcRun.sl.r_22 c arg2 B = tys c arg2 B 9 ∧
    tcRun.sl.r_25 c arg2 B = tys c arg2 B 10 ∧
    tcRun.sl.r_27 c arg2 B = tys c arg2 B 11 ∧
    tcRun.sl.r_31 c arg2 B = tys c arg2 B 12 ∧
    tcRun.sl.r_33 c arg2 B = tys c arg2 B 13 ∧
    tcRun.sl.r_35 c arg2 B = tys c arg2 B 14 ∧
    tcRun.sl.r_39 c arg2 B = tys c arg2 B 15 :=
  ⟨rfl, rfl, rfl, rfl, rfl, rfl, rfl, rfl, rfl, rfl, rfl, rfl, rfl, rfl, rfl, rfl⟩

theorem near_fold (m j : ℕ) :
    cmpf .ole (sqrt (addf (mulf (subf (txs c arg2 B j) (txs c arg2 B m)) (subf (txs c arg2 B j) (txs c arg2 B m)))
      (mulf (subf (tys c arg2 B j) (tys c arg2 B m)) (subf (tys c arg2 B j) (tys c arg2 B m)))))
      (broadcast S32x256 (FloatOps.ofBits .f32 0x40000000#32))
    = nearV (txs c arg2 B) (tys c arg2 B) m j := by rw [nearV]

/-- The four planes the body stores, before they take the block's shape. -/
theorem tc_out :
    tcRun.sl.v1521 c arg2 B = outV (txs c arg2 B) (tys c arg2 B) 0 16 ∧
    tcRun.sl.v1684 c arg2 B = outV (txs c arg2 B) (tys c arg2 B) 1 16 ∧
    tcRun.sl.v1847 c arg2 B = outV (txs c arg2 B) (tys c arg2 B) 2 16 ∧
    k1_pay1 (tcRun.sl.r_207 c arg2 B) (tcRun.sl.r_208 c arg2 B) 15#32 = shapeCast S1x1x32x256 (outV (txs c arg2 B) (tys c arg2 B) 3 16) shapeCasts_S32x256_S1x1x32x256 := by
  simp -implicitDefEqProofs only [txs_eq, tys_eq, near_fold, sup_zero, sup_succ, keep_succ, cnt_one (txs c arg2 B) (tys c arg2 B), cnt_succ, rank_zero, rank_fold, Nat.reduceAdd, Scalar.ofBits,
    tcRun.sl.cst_257, tcRun.sl.r_100, tcRun.sl.r_101, tcRun.sl.r_102, tcRun.sl.r_103, tcRun.sl.r_104,
    tcRun.sl.r_105, tcRun.sl.r_106, tcRun.sl.r_107, tcRun.sl.r_108, tcRun.sl.r_109, tcRun.sl.r_110,
    tcRun.sl.r_111, tcRun.sl.r_112, tcRun.sl.r_113, tcRun.sl.r_114, tcRun.sl.r_115, tcRun.sl.r_116,
    tcRun.sl.r_117, tcRun.sl.r_118, tcRun.sl.r_119, tcRun.sl.r_120, tcRun.sl.r_121, tcRun.sl.r_122,
    tcRun.sl.r_123, tcRun.sl.r_124, tcRun.sl.r_125, tcRun.sl.r_126, tcRun.sl.r_127, tcRun.sl.r_128,
    tcRun.sl.r_129, tcRun.sl.r_130, tcRun.sl.r_131, tcRun.sl.r_132, tcRun.sl.r_133, tcRun.sl.r_134,
    tcRun.sl.r_135, tcRun.sl.r_136, tcRun.sl.r_137, tcRun.sl.r_138, tcRun.sl.r_139, tcRun.sl.r_140,
    tcRun.sl.r_141, tcRun.sl.r_142, tcRun.sl.r_143, tcRun.sl.r_144, tcRun.sl.r_145, tcRun.sl.r_146,
    tcRun.sl.r_147, tcRun.sl.r_148, tcRun.sl.r_149, tcRun.sl.r_150, tcRun.sl.r_151, tcRun.sl.r_152,
    tcRun.sl.r_153, tcRun.sl.r_154, tcRun.sl.r_155, tcRun.sl.r_156, tcRun.sl.r_157, tcRun.sl.r_158,
    tcRun.sl.r_159, tcRun.sl.r_160, tcRun.sl.r_161, tcRun.sl.r_162, tcRun.sl.r_163, tcRun.sl.r_164,
    tcRun.sl.r_165, tcRun.sl.r_166, tcRun.sl.r_167, tcRun.sl.r_168, tcRun.sl.r_169, tcRun.sl.r_170,
    tcRun.sl.r_171, tcRun.sl.r_172, tcRun.sl.r_173, tcRun.sl.r_174, tcRun.sl.r_175, tcRun.sl.r_176,
    tcRun.sl.r_177, tcRun.sl.r_178, tcRun.sl.r_179, tcRun.sl.r_180, tcRun.sl.r_181, tcRun.sl.r_182,
    tcRun.sl.r_183, tcRun.sl.r_184, tcRun.sl.r_185, tcRun.sl.r_186, tcRun.sl.r_187, tcRun.sl.r_188,
    tcRun.sl.r_189, tcRun.sl.r_190, tcRun.sl.r_191, tcRun.sl.r_192, tcRun.sl.r_193, tcRun.sl.r_194,
    tcRun.sl.r_195, tcRun.sl.r_196, tcRun.sl.r_197, tcRun.sl.r_198, tcRun.sl.r_199, tcRun.sl.r_200,
    tcRun.sl.r_201, tcRun.sl.r_202, tcRun.sl.r_203, tcRun.sl.r_204, tcRun.sl.r_205, tcRun.sl.r_206,
    tcRun.sl.r_207, tcRun.sl.r_208, tcRun.sl.r_40, tcRun.sl.r_41, tcRun.sl.r_42, tcRun.sl.r_43, tcRun.sl.r_44,
    tcRun.sl.r_45, tcRun.sl.r_46, tcRun.sl.r_47, tcRun.sl.r_48, tcRun.sl.r_49, tcRun.sl.r_50, tcRun.sl.r_51,
    tcRun.sl.r_52, tcRun.sl.r_53, tcRun.sl.r_54, tcRun.sl.r_55, tcRun.sl.r_56, tcRun.sl.r_57, tcRun.sl.r_58,
    tcRun.sl.r_59, tcRun.sl.r_60, tcRun.sl.r_61, tcRun.sl.r_62, tcRun.sl.r_63, tcRun.sl.r_64, tcRun.sl.r_65,
    tcRun.sl.r_66, tcRun.sl.r_67, tcRun.sl.r_68, tcRun.sl.r_69, tcRun.sl.r_70, tcRun.sl.r_71, tcRun.sl.r_72,
    tcRun.sl.r_73, tcRun.sl.r_74, tcRun.sl.r_75, tcRun.sl.r_76, tcRun.sl.r_77, tcRun.sl.r_78, tcRun.sl.r_79,
    tcRun.sl.r_80, tcRun.sl.r_81, tcRun.sl.r_82, tcRun.sl.r_83, tcRun.sl.r_84, tcRun.sl.r_85, tcRun.sl.r_86,
    tcRun.sl.r_87, tcRun.sl.r_88, tcRun.sl.r_89, tcRun.sl.r_90, tcRun.sl.r_91, tcRun.sl.r_92, tcRun.sl.r_93,
    tcRun.sl.r_94, tcRun.sl.r_95, tcRun.sl.r_96, tcRun.sl.r_97, tcRun.sl.r_98, tcRun.sl.r_99, tcRun.sl.v1361,
    tcRun.sl.v1362, tcRun.sl.v1364, tcRun.sl.v1365, tcRun.sl.v1367, tcRun.sl.v1370, tcRun.sl.v1371,
    tcRun.sl.v1372, tcRun.sl.v1374, tcRun.sl.v1375, tcRun.sl.v1377, tcRun.sl.v1380, tcRun.sl.v1381,
    tcRun.sl.v1382, tcRun.sl.v1383, tcRun.sl.v1384, tcRun.sl.v1385, tcRun.sl.v1387, tcRun.sl.v1390,
    tcRun.sl.v1391, tcRun.sl.v1392, tcRun.sl.v1393, tcRun.sl.v1394, tcRun.sl.v1395, tcRun.sl.v1397,
    tcRun.sl.v1400, tcRun.sl.v1401, tcRun.sl.v1402, tcRun.sl.v1403, tcRun.sl.v1404, tcRun.sl.v1405,
    tcRun.sl.v1407, tcRun.sl.v1410, tcRun.sl.v1411, tcRun.sl.v1412, tcRun.sl.v1413, tcRun.sl.v1414,
    tcRun.sl.v1415, tcRun.sl.v1417, tcRun.sl.v1420, tcRun.sl.v1421, tcRun.sl.v1422, tcRun.sl.v1423,
    tcRun.sl.v1424, tcRun.sl.v1425, tcRun.sl.v1427, tcRun.sl.v1430, tcRun.sl.v1431, tcRun.sl.v1432,
    tcRun.sl.v1433, tcRun.sl.v1434, tcRun.sl.v1435, tcRun.sl.v1437, tcRun.sl.v1440, tcRun.sl.v1441,
    tcRun.sl.v1442, tcRun.sl.v1443, tcRun.sl.v1444, tcRun.sl.v1445, tcRun.sl.v1447, tcRun.sl.v1450,
    tcRun.sl.v1451, tcRun.sl.v1452, tcRun.sl.v1453, tcRun.sl.v1454, tcRun.sl.v1455, tcRun.sl.v1457,
    tcRun.sl.v1460, tcRun.sl.v1461, tcRun.sl.v1462, tcRun.sl.v1463, tcRun.sl.v1464, tcRun.sl.v1465,
    tcRun.sl.v1467, tcRun.sl.v1470, tcRun.sl.v1471, tcRun.sl.v1472, tcRun.sl.v1473, tcRun.sl.v1474,
    tcRun.sl.v1475, tcRun.sl.v1477, tcRun.sl.v1480, tcRun.sl.v1481, tcRun.sl.v1482, tcRun.sl.v1483,
    tcRun.sl.v1484, tcRun.sl.v1485, tcRun.sl.v1487, tcRun.sl.v1490, tcRun.sl.v1491, tcRun.sl.v1492,
    tcRun.sl.v1493, tcRun.sl.v1494, tcRun.sl.v1495, tcRun.sl.v1497, tcRun.sl.v1500, tcRun.sl.v1501,
    tcRun.sl.v1502, tcRun.sl.v1503, tcRun.sl.v1504, tcRun.sl.v1505, tcRun.sl.v1507, tcRun.sl.v1510,
    tcRun.sl.v1511, tcRun.sl.v1512, tcRun.sl.v1513, tcRun.sl.v1514, tcRun.sl.v1515, tcRun.sl.v1517,
    tcRun.sl.v1520, tcRun.sl.v1521, tcRun.sl.v1530, tcRun.sl.v1533, tcRun.sl.v1534, tcRun.sl.v1540,
    tcRun.sl.v1543, tcRun.sl.v1544, tcRun.sl.v1550, tcRun.sl.v1553, tcRun.sl.v1554, tcRun.sl.v1560,
    tcRun.sl.v1563, tcRun.sl.v1564, tcRun.sl.v1570, tcRun.sl.v1573, tcRun.sl.v1574, tcRun.sl.v1580,
    tcRun.sl.v1583, tcRun.sl.v1584, tcRun.sl.v1590, tcRun.sl.v1593, tcRun.sl.v1594, tcRun.sl.v1600,
    tcRun.sl.v1603, tcRun.sl.v1604, tcRun.sl.v1610, tcRun.sl.v1613, tcRun.sl.v1614, tcRun.sl.v1620,
    tcRun.sl.v1623, tcRun.sl.v1624, tcRun.sl.v1630, tcRun.sl.v1633, tcRun.sl.v1634, tcRun.sl.v1640,
    tcRun.sl.v1643, tcRun.sl.v1644, tcRun.sl.v1650, tcRun.sl.v1653, tcRun.sl.v1654, tcRun.sl.v1660,
    tcRun.sl.v1663, tcRun.sl.v1664, tcRun.sl.v1670, tcRun.sl.v1673, tcRun.sl.v1674, tcRun.sl.v1680,
    tcRun.sl.v1683, tcRun.sl.v1684, tcRun.sl.v1693, tcRun.sl.v1696, tcRun.sl.v1697, tcRun.sl.v1703,
    tcRun.sl.v1706, tcRun.sl.v1707, tcRun.sl.v1713, tcRun.sl.v1716, tcRun.sl.v1717, tcRun.sl.v1723,
    tcRun.sl.v1726, tcRun.sl.v1727, tcRun.sl.v1733, tcRun.sl.v1736, tcRun.sl.v1737, tcRun.sl.v1743,
    tcRun.sl.v1746, tcRun.sl.v1747, tcRun.sl.v1753, tcRun.sl.v1756, tcRun.sl.v1757, tcRun.sl.v1763,
    tcRun.sl.v1766, tcRun.sl.v1767, tcRun.sl.v1773, tcRun.sl.v1776, tcRun.sl.v1777, tcRun.sl.v1783,
    tcRun.sl.v1786, tcRun.sl.v1787, tcRun.sl.v1793, tcRun.sl.v1796, tcRun.sl.v1797, tcRun.sl.v1803,
    tcRun.sl.v1806, tcRun.sl.v1807, tcRun.sl.v1813, tcRun.sl.v1816, tcRun.sl.v1817, tcRun.sl.v1823,
    tcRun.sl.v1826, tcRun.sl.v1827, tcRun.sl.v1833, tcRun.sl.v1836, tcRun.sl.v1837, tcRun.sl.v1843,
    tcRun.sl.v1846, tcRun.sl.v1847, tcRun.sl.v1856, tcRun.sl.v1859, tcRun.sl.v1860, tcRun.sl.v1866,
    tcRun.sl.v1869, tcRun.sl.v1870, tcRun.sl.v1876, tcRun.sl.v1879, tcRun.sl.v1880, tcRun.sl.v1886,
    tcRun.sl.v1889, tcRun.sl.v1890, tcRun.sl.v1896, tcRun.sl.v1899, tcRun.sl.v1900, tcRun.sl.v1906,
    tcRun.sl.v1909, tcRun.sl.v1910, tcRun.sl.v1916, tcRun.sl.v1919, tcRun.sl.v1920, tcRun.sl.v1926,
    tcRun.sl.v1929, tcRun.sl.v1930, tcRun.sl.v1936, tcRun.sl.v1939, tcRun.sl.v1940, tcRun.sl.v1946,
    tcRun.sl.v1949, tcRun.sl.v1950, tcRun.sl.v1956, tcRun.sl.v1959, tcRun.sl.v1960, tcRun.sl.v1966,
    tcRun.sl.v1969, tcRun.sl.v1970, tcRun.sl.v1976, tcRun.sl.v1979, tcRun.sl.v1980, tcRun.sl.v1986,
    tcRun.sl.v1989, tcRun.sl.v1990, k1_pay1, k1_pay56, k1_pay57, k1_pay58, k1_pay59, k1_pay60, k1_pay61,
    k1_pay62, k1_pay63, k1_pay64, k1_pay65, k1_pay66, k1_pay67, k1_pay68, k1_pay69, k1_pay70, k1_pay71,
    k1_pay72, k1_pay73, k1_pay74, k1_pay75, k1_pay76, k1_pay77, k1_pay78, k1_pay79, k1_pay80, k1_pay81,
    k1_pay82, k1_pay83, k1_pay84, k1_pay85, k1_pay86, k1_pay87, k1_pay88, k1_pay89, k1_pay90, k1_pay91,
    k1_pay92, k1_pay93, k1_pay94, k1_pay95, k1_pay96, k1_pay97, k1_pay98, k1_pay99, k1_pay100, k1_pay101,
    k1_pay102, k1_pay103, k1_pay104, k1_pay105, k1_pay106, k1_pay107, k1_pay108, k1_pay109, k1_pay110,
    k1_pay111, k1_pay112, k1_pay113, k1_pay114, k1_pay115, k1_pay116, k1_pay117, k1_pay118, k1_pay119,
    k1_pay120, k1_pay121, k1_pay122, k1_pay123, k1_pay124, k1_pay125, k1_pay126, k1_pay127, k1_pay128,
    k1_pay129, k1_pay130, k1_pay131, k1_pay132, k1_pay133, k1_pay134, k1_pay135, k1_pay136, k1_pay137,
    k1_pay138, k1_pay139, k1_pay140, k1_pay141, k1_pay142, k1_pay143, k1_pay144, k1_pay145, k1_pay146,
    k1_pay147, k1_pay148, k1_pay149, k1_pay150, k1_pay151, k1_pay152, k1_pay153, k1_pay154, k1_pay155,
    k1_pay156, k1_pay157, k1_pay158, k1_pay159, k1_pay160, k1_pay161, k1_pay162, k1_pay163, k1_pay164,
    k1_pay165, k1_pay166, k1_pay167, k1_pay168, k1_pay169, k1_pay170, k1_pay171, k1_pay172, k1_pay173,
    k1_pay174, k1_pay175, k1_pay176, k1_pay177, k1_pay178, k1_pay179, k1_pay180, k1_pay181, k1_pay182,
    k1_pay183, k1_pay184, k1_pay185, k1_pay186, k1_pay187, k1_pay188, k1_pay189, k1_pay190, k1_pay191,
    k1_pay192, k1_pay193, k1_pay194, k1_pay195, k1_pay196, k1_pay197, k1_pay198, k1_pay199, k1_pay200,
    k1_pay201, k1_pay202, k1_pay203, k1_pay204, k1_pay205, k1_pay206, k1_pay207, k1_pay208, k1_pay209,
    k1_pay210, k1_pay211, k1_pay212, k1_pay213, k1_pay214, k1_pay215, k1_pay216, k1_pay217, k1_pay218,
    k1_pay219, k1_pay220, k1_pay221, k1_pay222, k1_pay223, k1_pay224, k1_pay225, k1_pay226, k1_pay227,
    k1_pay228, k1_pay229, k1_pay230, k1_pay231, k1_pay232, k1_pay233, k1_pay234, k1_pay235, k1_pay236,
    k1_pay237, k1_pay238, k1_pay239, k1_pay240, k1_pay241, k1_pay242, k1_pay243, k1_pay244, k1_pay245,
    k1_pay246, k1_pay247, k1_pay248, k1_pay249, k1_pay250, k1_pay251, k1_pay252, k1_pay253, k1_pay254,
    k1_pay255, k1_pay256, k1_pay257, k1_pay258, k1_pay259, k1_pay260, k1_pay261, k1_pay262, k1_pay263,
    k1_pay264, k1_pay265, k1_pay266]
  exact ⟨rfl, rfl, rfl, rfl⟩

end Cert.Proof.KernelIdeal

end
-- ==== Proof.KernelIdeal.ScTrip.lean ====
module

public import proofs.«01_k».proof.Proof.KernelIdeal.Base

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v9_scv : Memref Cert.KernelIdeal.sig Kind.scVector Space.hbm Cert.KernelIdeal.S4x32x16384 EltTy.f32)
local notation "oW" => (Memref.whole Cert.KernelIdeal.main_v10_scv : Memref Cert.KernelIdeal.sig Kind.scVector Space.hbm Cert.KernelIdeal.S4x4x16384 EltTy.i32)
local notation "bW" => (Memref.whole Cert.KernelIdeal.cc0_scratch0 : Memref Cert.KernelIdeal.sig Kind.scVector Space.vmem Cert.KernelIdeal.S32x512 EltTy.f32)
local notation "rW" => (Memref.whole Cert.KernelIdeal.cc0_scratch1 : Memref Cert.KernelIdeal.sig Kind.scVector Space.vmem Cert.KernelIdeal.S4x512 EltTy.i32)

variable [FloatOps F]

abbrev cV (L : grid0.Coords) : Fin τ.nSC := (L 0).castLE hcore0
abbrev jV (L : grid0.Coords) : Fin τ.nSub := (L 1).castLE hsub0

def trip (d : Dev nD) (L : grid0.Coords) (g : Fin k0_t2_loop.trips)
    (B : Buf (Elt F) ((bW).view.loc (V d (cV L) (jV L)))) (f : Buf (Elt F) ((rW).view.loc (V d (cV L) (jV L)))) :
    { P : List (View.Piece (Elt F) S4x512 .i32) //
    iprop(((bW).view.loc (V d (cV L) (jV L)) ↦{fullShare} B : sProp 𝕄) ∗ ((rW).view.loc (V d (cV L) (jV L)) ↦{fullShare} f))
      ⊢ wp frame (wpE (defs₀ (F := F)) 𝒱₀ (V d (cV L) (jV L)) none) Set.univ
          (k0_t2_body L xW (Memref.isWhole_whole _) oW (Memref.isWhole_whole _) bW (Memref.isWhole_whole _) rW (Memref.isWhole_whole _) cc0_scoped0 cc0_scoped1 g ⟨⟩)
          fun _ => iprop(((bW).view.loc (V d (cV L) (jV L)) ↦{fullShare} B : sProp 𝕄)
            ∗ ((rW).view.loc (V d (cV L) (jV L)) ↦{fullShare} ((rW).view.writes (Elt F) f P))) } := by
  refine ⟨?_, ?run⟩
  case run =>
    iintro ⟨Hb, Hr⟩
    unfold k0_t2_body
    sl_exec_parts
    sl_step
    isplitl [Hb]; · iexact Hb
    iexact Hr

end Cert.Proof.KernelIdeal

end
-- ==== Proof.KernelIdeal.ScValue.lean ====
module

public import proofs.«01_k».proof.Proof.KernelIdeal.ScTrip
public import proofs.«01_k».proof.Proof.Nms

@[expose] public section

/-! What one trip of the inner loop computes: the four stored vectors are `Nms.outV` of the loaded rows. -/

set_option maxRecDepth 4000

noncomputable section

namespace Cert.Proof.KernelIdeal

open Cert.KernelIdeal Cert.KernelIdeal.Gen
open Idealize.ShloMosaic
open Idealize.ShloMosaic.SparseCore (S V T)
open Cert.Proof.Nms

variable {F : FTy → Type} [FloatOps F]
variable (d : Dev nD) (L : grid0.Coords) (g : Fin k0_t2_loop.trips)
  (B : Buf (Elt F) ((Memref.whole cc0_scratch0 : Memref sig Kind.scVector Space.vmem S32x512 EltTy.f32).view.loc (V d (cV L) (jV L))))

/-- The first coordinates the trip loads, by candidate. -/
def xs : ℕ → FVec F S16 .f32
  | 0 => trip.sl.v38 d L g B
  | 1 => trip.sl.v42 d L g B
  | 2 => trip.sl.v46 d L g B
  | 3 => trip.sl.v50 d L g B
  | 4 => trip.sl.v54 d L g B
  | 5 => trip.sl.v58 d L g B
  | 6 => trip.sl.v62 d L g B
  | 7 => trip.sl.v66 d L g B
  | 8 => trip.sl.v70 d L g B
  | 9 => trip.sl.v74 d L g B
  | 10 => trip.sl.v78 d L g B
  | 11 => trip.sl.v82 d L g B
  | 12 => trip.sl.v86 d L g B
  | 13 => trip.sl.v90 d L g B
  | 14 => trip.sl.v94 d L g B
  | _ => trip.sl.v98 d L g B

/-- The second coordinates the trip loads, by candidate. -/
def ys : ℕ → FVec F S16 .f32
  | 0 => trip.sl.v102 d L g B
  | 1 => trip.sl.v106 d L g B
  | 2 => trip.sl.v110 d L g B
  | 3 => trip.sl.v114 d L g B
  | 4 => trip.sl.v118 d L g B
  | 5 => trip.sl.v122 d L g B
  | 6 => trip.sl.v126 d L g B
  | 7 => trip.sl.r d L g B
  | 8 => trip.sl.r_1 d L g B
  | 9 => trip.sl.r_2 d L g B
  | 10 => trip.sl.r_3 d L g B
  | 11 => trip.sl.r_4 d L g B
  | 12 => trip.sl.r_5 d L g B
  | 13 => trip.sl.r_6 d L g B
  | 14 => trip.sl.r_7 d L g B
  | _ => trip.sl.r_8 d L g B

theorem xs_load : trip.sl.v38 d L g B = xs d L g B 0 ∧
    trip.sl.v42 d L g B = xs d L g B 1 ∧
    trip.sl.v46 d L g B = xs d L g B 2 ∧
    trip.sl.v50 d L g B = xs d L g B 3 ∧
    trip.sl.v54 d L g B = xs d L g B 4 ∧
    trip.sl.v58 d L g B = xs d L g B 5 ∧
    trip.sl.v62 d L g B = xs d L g B 6 ∧
    trip.sl.v66 d L g B = xs d L g B 7 ∧
    trip.sl.v70 d L g B = xs d L g B 8 ∧
    trip.sl.v74 d L g B = xs d L g B 9 ∧
    trip.sl.v78 d L g B = xs d L g B 10 ∧
    trip.sl.v82 d L g B = xs d L g B 11 ∧
    trip.sl.v86 d L g B = xs d L g B 12 ∧
    trip.sl.v90 d L g B = xs d L g B 13 ∧
    trip.sl.v94 d L g B = xs d L g B 14 ∧
    trip.sl.v98 d L g B = xs d L g B 15 :=
  ⟨rfl, rfl, rfl, rfl, rfl, rfl, rfl, rfl, rfl, rfl, rfl, rfl, rfl, rfl, rfl, rfl⟩

theorem ys_load : trip.sl.v102 d L g B = ys d L g B 0 ∧
    trip.sl.v106 d L g B = ys d L g B 1 ∧
    trip.sl.v110 d L g B = ys d L g B 2 ∧
    trip.sl.v114 d L g B = ys d L g B 3 ∧
    trip.sl.v118 d L g B = ys d L g B 4 ∧
    trip.sl.v122 d L g B = ys d L g B 5 ∧
    trip.sl.v126 d L g B = ys d L g B 6 ∧
    trip.sl.r d L g B = ys d L g B 7 ∧
    trip.sl.r_1 d L g B = ys d L g B 8 ∧
    trip.sl.r_2 d L g B = ys d L g B 9 ∧
    trip.sl.r_3 d L g B = ys d L g B 10 ∧
    trip.sl.r_4 d L g B = ys d L g B 11 ∧
    trip.sl.r_5 d L g B = ys d L g B 12 ∧
    trip.sl.r_6 d L g B = ys d L g B 13 ∧
    trip.sl.r_7 d L g B = ys d L g B 14 ∧
    trip.sl.r_8 d L g B = ys d L g B 15 :=
  ⟨rfl, rfl, rfl, rfl, rfl, rfl, rfl, rfl, rfl, rfl, rfl, rfl, rfl, rfl, rfl, rfl⟩

theorem hit_fold (km : IVec S16 32) (m j : ℕ) :
    select (cmpf .ole (addf (mulf (subf (xs d L g B j) (xs d L g B m)) (subf (xs d L g B j) (xs d L g B m)))
      (mulf (subf (ys d L g B j) (ys d L g B m)) (subf (ys d L g B j) (ys d L g B m))))
      (broadcast S16 (Scalar.ofBits .f32 0x40800000#32))) km (broadcast S16 0#32)
    = hitV (xs d L g B) (ys d L g B) km m j := by rw [hitV]

/-- The four vectors a trip stores. -/
theorem trip_out :
    trip.sl.v1857 d L g B = outV (xs d L g B) (ys d L g B) 0 16 ∧
    trip.sl.v1863 d L g B = outV (xs d L g B) (ys d L g B) 1 16 ∧
    trip.sl.r_184 d L g B = outV (xs d L g B) (ys d L g B) 2 16 ∧
    trip.sl.r_185 d L g B = outV (xs d L g B) (ys d L g B) 3 16 := by
  simp -implicitDefEqProofs only [xs_load, ys_load, hit_fold, sup_zero, sup_succ, keep_succ, cnt_one (xs d L g B) (ys d L g B), cnt_succ, rank_zero, rank_fold, Nat.reduceAdd,
    trip.sl.r_10, trip.sl.r_100, trip.sl.r_101, trip.sl.r_102, trip.sl.r_103, trip.sl.r_104, trip.sl.r_105,
    trip.sl.r_106, trip.sl.r_107, trip.sl.r_108, trip.sl.r_109, trip.sl.r_11, trip.sl.r_110, trip.sl.r_111,
    trip.sl.r_112, trip.sl.r_113, trip.sl.r_114, trip.sl.r_115, trip.sl.r_116, trip.sl.r_117, trip.sl.r_118,
    trip.sl.r_119, trip.sl.r_12, trip.sl.r_120, trip.sl.r_121, trip.sl.r_122, trip.sl.r_123, trip.sl.r_124,
    trip.sl.r_125, trip.sl.r_126, trip.sl.r_127, trip.sl.r_128, trip.sl.r_129, trip.sl.r_13, trip.sl.r_130,
    trip.sl.r_131, trip.sl.r_132, trip.sl.r_133, trip.sl.r_134, trip.sl.r_135, trip.sl.r_136, trip.sl.r_137,
    trip.sl.r_138, trip.sl.r_139, trip.sl.r_14, trip.sl.r_140, trip.sl.r_141, trip.sl.r_142, trip.sl.r_143,
    trip.sl.r_144, trip.sl.r_145, trip.sl.r_146, trip.sl.r_147, trip.sl.r_148, trip.sl.r_149, trip.sl.r_15,
    trip.sl.r_150, trip.sl.r_151, trip.sl.r_152, trip.sl.r_153, trip.sl.r_154, trip.sl.r_155, trip.sl.r_156,
    trip.sl.r_157, trip.sl.r_158, trip.sl.r_159, trip.sl.r_16, trip.sl.r_160, trip.sl.r_161, trip.sl.r_162,
    trip.sl.r_163, trip.sl.r_164, trip.sl.r_165, trip.sl.r_166, trip.sl.r_167, trip.sl.r_168, trip.sl.r_169,
    trip.sl.r_17, trip.sl.r_170, trip.sl.r_171, trip.sl.r_172, trip.sl.r_173, trip.sl.r_174, trip.sl.r_175,
    trip.sl.r_176, trip.sl.r_177, trip.sl.r_178, trip.sl.r_179, trip.sl.r_18, trip.sl.r_180, trip.sl.r_181,
    trip.sl.r_182, trip.sl.r_183, trip.sl.r_184, trip.sl.r_185, trip.sl.r_19, trip.sl.r_20, trip.sl.r_21,
    trip.sl.r_22, trip.sl.r_23, trip.sl.r_24, trip.sl.r_25, trip.sl.r_26, trip.sl.r_27, trip.sl.r_28,
    trip.sl.r_29, trip.sl.r_30, trip.sl.r_31, trip.sl.r_32, trip.sl.r_33, trip.sl.r_34, trip.sl.r_35,
    trip.sl.r_36, trip.sl.r_37, trip.sl.r_38, trip.sl.r_39, trip.sl.r_40, trip.sl.r_41, trip.sl.r_42,
    trip.sl.r_43, trip.sl.r_44, trip.sl.r_45, trip.sl.r_46, trip.sl.r_47, trip.sl.r_48, trip.sl.r_49,
    trip.sl.r_50, trip.sl.r_51, trip.sl.r_52, trip.sl.r_53, trip.sl.r_54, trip.sl.r_55, trip.sl.r_56,
    trip.sl.r_57, trip.sl.r_58, trip.sl.r_59, trip.sl.r_60, trip.sl.r_61, trip.sl.r_62, trip.sl.r_63,
    trip.sl.r_64, trip.sl.r_65, trip.sl.r_66, trip.sl.r_67, trip.sl.r_68, trip.sl.r_69, trip.sl.r_70,
    trip.sl.r_71, trip.sl.r_72, trip.sl.r_73, trip.sl.r_74, trip.sl.r_75, trip.sl.r_76, trip.sl.r_77,
    trip.sl.r_78, trip.sl.r_79, trip.sl.r_80, trip.sl.r_81, trip.sl.r_82, trip.sl.r_83, trip.sl.r_84,
    trip.sl.r_85, trip.sl.r_86, trip.sl.r_87, trip.sl.r_88, trip.sl.r_89, trip.sl.r_9, trip.sl.r_90,
    trip.sl.r_91, trip.sl.r_92, trip.sl.r_93, trip.sl.r_94, trip.sl.r_95, trip.sl.r_96, trip.sl.r_97,
    trip.sl.r_98, trip.sl.r_99, trip.sl.v1414, trip.sl.v1415, trip.sl.v1416, trip.sl.v1418, trip.sl.v1419,
    trip.sl.v1420, trip.sl.v1421, trip.sl.v1424, trip.sl.v1425, trip.sl.v1426, trip.sl.v1427, trip.sl.v1430,
    trip.sl.v1431, trip.sl.v1433, trip.sl.v1436, trip.sl.v1437, trip.sl.v1439, trip.sl.v1442, trip.sl.v1443,
    trip.sl.v1445, trip.sl.v1448, trip.sl.v1449, trip.sl.v1451, trip.sl.v1454, trip.sl.v1455, trip.sl.v1457,
    trip.sl.v1459, trip.sl.v1460, trip.sl.v1461, trip.sl.v1463, trip.sl.v1466, trip.sl.v1467, trip.sl.v1469,
    trip.sl.v1472, trip.sl.v1473, trip.sl.v1475, trip.sl.v1478, trip.sl.v1479, trip.sl.v1481, trip.sl.v1484,
    trip.sl.v1485, trip.sl.v1487, trip.sl.v1489, trip.sl.v1490, trip.sl.v1491, trip.sl.v1493, trip.sl.v1496,
    trip.sl.v1497, trip.sl.v1499, trip.sl.v1502, trip.sl.v1503, trip.sl.v1505, trip.sl.v1508, trip.sl.v1509,
    trip.sl.v1511, trip.sl.v1514, trip.sl.v1515, trip.sl.v1517, trip.sl.v1518, trip.sl.v1519, trip.sl.v1520,
    trip.sl.v1521, trip.sl.v1523, trip.sl.v1526, trip.sl.v1527, trip.sl.v1529, trip.sl.v1532, trip.sl.v1533,
    trip.sl.v1535, trip.sl.v1538, trip.sl.v1539, trip.sl.v1541, trip.sl.v1544, trip.sl.v1545, trip.sl.v1547,
    trip.sl.v1548, trip.sl.v1549, trip.sl.v1550, trip.sl.v1551, trip.sl.v1553, trip.sl.v1556, trip.sl.v1557,
    trip.sl.v1559, trip.sl.v1562, trip.sl.v1563, trip.sl.v1565, trip.sl.v1568, trip.sl.v1569, trip.sl.v1571,
    trip.sl.v1574, trip.sl.v1575, trip.sl.v1577, trip.sl.v1578, trip.sl.v1579, trip.sl.v1580, trip.sl.v1581,
    trip.sl.v1583, trip.sl.v1586, trip.sl.v1587, trip.sl.v1589, trip.sl.v1592, trip.sl.v1593, trip.sl.v1595,
    trip.sl.v1598, trip.sl.v1599, trip.sl.v1601, trip.sl.v1604, trip.sl.v1605, trip.sl.v1607, trip.sl.v1608,
    trip.sl.v1609, trip.sl.v1610, trip.sl.v1611, trip.sl.v1613, trip.sl.v1616, trip.sl.v1617, trip.sl.v1619,
    trip.sl.v1622, trip.sl.v1623, trip.sl.v1625, trip.sl.v1628, trip.sl.v1629, trip.sl.v1631, trip.sl.v1634,
    trip.sl.v1635, trip.sl.v1637, trip.sl.v1638, trip.sl.v1639, trip.sl.v1640, trip.sl.v1641, trip.sl.v1643,
    trip.sl.v1646, trip.sl.v1647, trip.sl.v1649, trip.sl.v1652, trip.sl.v1653, trip.sl.v1655, trip.sl.v1658,
    trip.sl.v1659, trip.sl.v1661, trip.sl.v1664, trip.sl.v1665, trip.sl.v1667, trip.sl.v1668, trip.sl.v1669,
    trip.sl.v1670, trip.sl.v1671, trip.sl.v1673, trip.sl.v1676, trip.sl.v1677, trip.sl.v1679, trip.sl.v1682,
    trip.sl.v1683, trip.sl.v1685, trip.sl.v1688, trip.sl.v1689, trip.sl.v1691, trip.sl.v1694, trip.sl.v1695,
    trip.sl.v1697, trip.sl.v1698, trip.sl.v1699, trip.sl.v1700, trip.sl.v1701, trip.sl.v1703, trip.sl.v1706,
    trip.sl.v1707, trip.sl.v1709, trip.sl.v1712, trip.sl.v1713, trip.sl.v1715, trip.sl.v1718, trip.sl.v1719,
    trip.sl.v1721, trip.sl.v1724, trip.sl.v1725, trip.sl.v1727, trip.sl.v1728, trip.sl.v1729, trip.sl.v1730,
    trip.sl.v1731, trip.sl.v1733, trip.sl.v1736, trip.sl.v1737, trip.sl.v1739, trip.sl.v1742, trip.sl.v1743,
    trip.sl.v1745, trip.sl.v1748, trip.sl.v1749, trip.sl.v1751, trip.sl.v1754, trip.sl.v1755, trip.sl.v1757,
    trip.sl.v1758, trip.sl.v1759, trip.sl.v1760, trip.sl.v1761, trip.sl.v1763, trip.sl.v1766, trip.sl.v1767,
    trip.sl.v1769, trip.sl.v1772, trip.sl.v1773, trip.sl.v1775, trip.sl.v1778, trip.sl.v1779, trip.sl.v1781,
    trip.sl.v1784, trip.sl.v1785, trip.sl.v1787, trip.sl.v1788, trip.sl.v1789, trip.sl.v1790, trip.sl.v1791,
    trip.sl.v1793, trip.sl.v1796, trip.sl.v1797, trip.sl.v1799, trip.sl.v1802, trip.sl.v1803, trip.sl.v1805,
    trip.sl.v1808, trip.sl.v1809, trip.sl.v1811, trip.sl.v1814, trip.sl.v1815, trip.sl.v1817, trip.sl.v1818,
    trip.sl.v1819, trip.sl.v1820, trip.sl.v1821, trip.sl.v1823, trip.sl.v1826, trip.sl.v1827, trip.sl.v1829,
    trip.sl.v1832, trip.sl.v1833, trip.sl.v1835, trip.sl.v1838, trip.sl.v1839, trip.sl.v1841, trip.sl.v1844,
    trip.sl.v1845, trip.sl.v1847, trip.sl.v1848, trip.sl.v1849, trip.sl.v1850, trip.sl.v1851, trip.sl.v1853,
    trip.sl.v1856, trip.sl.v1857, trip.sl.v1859, trip.sl.v1862, trip.sl.v1863, k0_pay5, k0_pay6, k0_pay7,
    k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214,
    k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268,
    k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286,
    k0_pay287, k0_pay288, k0_pay289, k0_pay290, k0_pay291, k0_pay292, k0_pay293, k0_pay294, k0_pay295,
    k0_pay296, k0_pay297, k0_pay298, k0_pay299]
  exact ⟨rfl, rfl, rfl, rfl⟩

end Cert.Proof.KernelIdeal

end
-- ==== Proof.KernelIdeal.ScRow.lean ====
module

public import proofs.«01_k».proof.Proof.KernelIdeal.ScValue
public import Idealize.ShloMosaic.Lib.WritesUnit
public import Idealize.ShloMosaic.Lib.Pointwise

@[expose] public section

/-! One trip of the inner loop, read element by element: it turns sixteen more columns of the result
buffer into the pixels of the input buffer's columns. -/

noncomputable section

namespace Cert.Proof.KernelIdeal

open Cert.KernelIdeal Cert.KernelIdeal.Gen
open Idealize.ShloMosaic
open Idealize.ShloMosaic.SparseCore (S V T)
open Cert.Proof.Nms

variable {F : FTy → Type} [FloatOps F]

local notation "bW" => (Memref.whole Cert.KernelIdeal.cc0_scratch0 : Memref Cert.KernelIdeal.sig Kind.scVector Space.vmem Cert.KernelIdeal.S32x512 EltTy.f32)
local notation "rW" => (Memref.whole Cert.KernelIdeal.cc0_scratch1 : Memref Cert.KernelIdeal.sig Kind.scVector Space.vmem Cert.KernelIdeal.S4x512 EltTy.i32)

/-- The offsets of the thirty-two loads of a trip. -/
def loadOff (g : Fin k0_t2_loop.trips) : Fin 32 → Fin 2 → ℕ :=
  ![k0_off2 g, k0_off3 g, k0_off4 g, k0_off5 g, k0_off6 g, k0_off7 g, k0_off8 g, k0_off9 g,
    k0_off10 g, k0_off11 g, k0_off12 g, k0_off13 g, k0_off14 g, k0_off15 g, k0_off16 g, k0_off17 g,
    k0_off18 g, k0_off19 g, k0_off20 g, k0_off21 g, k0_off22 g, k0_off23 g, k0_off24 g, k0_off25 g,
    k0_off26 g, k0_off27 g, k0_off28 g, k0_off29 g, k0_off30 g, k0_off31 g, k0_off32 g, k0_off33 g]

theorem loadOff_eq : ∀ (g : Fin k0_t2_loop.trips) (r : Fin 32), loadOff g r = ![r.val, 16 * g.val] := by decide

/-- The offsets of the four stores of a trip. -/
theorem storeOff_eq : ∀ g : Fin k0_t2_loop.trips, k0_off34 g = ![0, 16 * g.val] ∧ k0_off35 g = ![1, 16 * g.val] ∧
    k0_off36 g = ![2, 16 * g.val] ∧ k0_off37 g = ![3, 16 * g.val] := by decide

theorem trips_eq : k0_t2_loop.trips = 32 := by decide

/-- Column `16 g + i` of a row. -/
def col (g : Fin k0_t2_loop.trips) (i : S16.Idx) : Fin 512 :=
  ⟨16 * g.val + (i 0).val, by have := g.isLt; have := trips_eq; have h : (i 0).val < 16 := (i 0).isLt; omega⟩

variable (d : Dev nD) (L : grid0.Coords) (g : Fin k0_t2_loop.trips)
  (B : Buf (Elt F) ((bW).view.loc (V d (cV L) (jV L))))

theorem load_apply (r : Fin 32) {off : Fin 2 → ℕ} (inb : ∀ a, off a + S1x16.size a ≤ S32x512.size a)
    (h : off = ![r.val, 16 * g.val]) (hc : S1x16.ShapeCasts S16) (i : S16.Idx) :
    shapeCast S16 (View.readAt (Elt F) (bW).view (Rect.unit (s := S32x512) off S1x16.size inb).toLoadRect B) hc i
      = B (ix2 r (col g i)) := by
  subst h
  pointwise
  show B _ = B _
  congr 1
  funext a
  apply Fin.ext
  match a with
  | ⟨0, _⟩ => show r.val + 1 * 0 = r.val; omega
  | ⟨1, _⟩ => show 16 * g.val + 1 * (i 0).val = 16 * g.val + (i 0).val; omega

theorem loadOff_inb : ∀ (g : Fin k0_t2_loop.trips) (r : Fin 32) (a : Fin 2),
    loadOff g r a + S1x16.size a ≤ S32x512.size a := by decide

/-- Row `r` of the input buffer as the trip loads it. -/
def loaded (r : Fin 32) : FVec F S16 .f32 :=
  shapeCast S16 (View.readAt (Elt F) (bW).view
    (Rect.unit (s := S32x512) (loadOff g r) S1x16.size (loadOff_inb g r)).toLoadRect B) shapeCasts_S1x16_S16

/-- A candidate's number, any number past the last being the last's. -/
def cand (m : ℕ) : Fin 16 := ⟨min m 15, by omega⟩

theorem xs_loaded (m : ℕ) : xs d L g B m = loaded d L g B ((cand m).castLE (by decide)) :=
  match m with
  | 0 | 1 | 2 | 3 | 4 | 5 | 6 | 7 | 8 | 9 | 10 | 11 | 12 | 13 | 14 => rfl
  | n + 15 => by
    rw [show cand (n + 15) = 15 from Fin.ext (by simp [cand])]; rfl

theorem ys_loaded (m : ℕ) : ys d L g B m = loaded d L g B ((cand m).natAdd 16) :=
  match m with
  | 0 | 1 | 2 | 3 | 4 | 5 | 6 | 7 | 8 | 9 | 10 | 11 | 12 | 13 | 14 => rfl
  | n + 15 => by
    rw [show cand (n + 15) = 15 from Fin.ext (by simp [cand])]; rfl

theorem loaded_apply (r : Fin 32) (i : S16.Idx) : loaded d L g B r i = B (ix2 r (col g i)) :=
  load_apply d L g B r _ (loadOff_eq g r) _ i

/-- The pixel results of an input buffer's columns: row `k` holds result `k`. -/
def pixBuf (B : S32x512.Idx → F .f32) (y : S4x512.Idx) : BitVec 32 :=
  pix (fun m => B (ix2 ((cand m).castLE (by decide)) (y 1))) (fun m => B (ix2 ((cand m).natAdd 16) (y 1))) (y 0).val

theorem out_pix (k : Fin 4) (i : S16.Idx) :
    outV (xs d L g B) (ys d L g B) k.val 16 i = pixBuf B (ix2 k (col g i)) := by
  rw [outV_apply]
  simp only [xs_loaded, ys_loaded, loaded_apply]
  rfl

variable (f : Buf (Elt F) ((rW).view.loc (V d (cV L) (jV L))))

theorem store_off {off : Fin 2 → ℕ} (k : Fin 4) (inb : ∀ a, off a + S1x16.size a ≤ S4x512.size a)
    (h : off = ![k.val, 16 * g.val]) (x : (Rect.unit (s := S4x512) off S1x16.size inb).shape.Idx) :
    (Rect.unit (s := S4x512) off S1x16.size inb).emb x = ix2 k (col g (ix1 (x 1))) := by
  subst h
  funext a
  apply Fin.ext
  match a with
  | ⟨0, _⟩ =>
    have hx : (x 0).val < 1 := (x 0).isLt
    show k.val + 1 * (x 0).val = k.val; omega
  | ⟨1, _⟩ => show 16 * g.val + 1 * (x 1).val = 16 * g.val + (x 1).val; omega

theorem store_pix {off : Fin 2 → ℕ} (k : Fin 4) (inb : ∀ a, off a + S1x16.size a ≤ S4x512.size a)
    (h : off = ![k.val, 16 * g.val]) (x : (Rect.unit (s := S4x512) off S1x16.size inb).shape.Idx)
    (hc : S16.ShapeCasts S1x16) :
    shapeCast S1x16 (outV (xs d L g B) (ys d L g B) k.val 16) hc x
      = pixBuf B ((Rect.unit (s := S4x512) off S1x16.size inb).emb x) := by
  rw [store_off g k inb h x, ← out_pix]
  pointwise

/-- The pieces of one trip. -/
theorem trip_pieces : (trip d L g B f).1 =
    [⟨Rect.unit (s := S4x512) (k0_off37 g) S1x16.size (k0_off37_inb g), k0_pay4 (trip.sl.r_185 d L g B)⟩,
     ⟨Rect.unit (s := S4x512) (k0_off36 g) S1x16.size (k0_off36_inb g), k0_pay3 (trip.sl.r_184 d L g B)⟩,
     ⟨Rect.unit (s := S4x512) (k0_off35 g) S1x16.size (k0_off35_inb g), k0_pay2 (trip.sl.v1863 d L g B)⟩,
     ⟨Rect.unit (s := S4x512) (k0_off34 g) S1x16.size (k0_off34_inb g), k0_pay1 (trip.sl.v1857 d L g B)⟩] := by
  delta trip
  rfl

/-- After trip `g` the first `16 (g + 1)` columns hold their pixels, if the first `16 g` did before it. -/
theorem trip_read (hf : ∀ y : S4x512.Idx, (y 1).val < 16 * g.val → f y = pixBuf B y) (y : S4x512.Idx)
    (hy : (y 1).val < 16 * (g.val + 1)) :
    (rW).view.writes (Elt F) f (trip d L g B f).1 y = pixBuf B y := by
  obtain ⟨h0, h1, h2, h3⟩ := storeOff_eq g
  show (rW).view.read (Elt F) ((rW).view.writes (Elt F) f (trip d L g B f).1) y = _
  rw [trip_pieces, k0_pay1, k0_pay2, k0_pay3, k0_pay4, (trip_out d L g B).1, (trip_out d L g B).2.1,
    (trip_out d L g B).2.2.1, (trip_out d L g B).2.2.2]
  by_cases hlt : (y 1).val < 16 * g.val
  · rw [View.read_writes_cons_unit_of_not_mem _ _ _ _ _ y h3 1 (Or.inl hlt),
      View.read_writes_cons_unit_of_not_mem _ _ _ _ _ y h2 1 (Or.inl hlt),
      View.read_writes_cons_unit_of_not_mem _ _ _ _ _ y h1 1 (Or.inl hlt),
      View.read_writes_cons_unit_of_not_mem _ _ _ _ _ y h0 1 (Or.inl hlt)]
    exact hf y hlt
  · apply View.read_writes_apply_of_pieces
    · simp only [List.forall_mem_cons, List.not_mem_nil, false_imp_iff, implies_true, and_true]
      exact ⟨fun x => store_pix d L g B 3 _ h3 x _, fun x => store_pix d L g B 2 _ h2 x _,
        fun x => store_pix d L g B 1 _ h1 x _, fun x => store_pix d L g B 0 _ h0 x _⟩
    · have hc : ∀ {off : Fin 2 → ℕ} (k : Fin 4) (inb : ∀ a, off a + S1x16.size a ≤ S4x512.size a),
          off = ![k.val, 16 * g.val] → y 0 = k → y ∈ (Rect.unit (s := S4x512) off S1x16.size inb).set := by
        intro off k inb h hk
        subst h
        rw [Rect.mem_set_unit]
        intro a
        match a with
        | ⟨0, _⟩ => show k.val ≤ (y 0).val ∧ (y 0).val < k.val + 1; rw [hk]; omega
        | ⟨1, _⟩ => show 16 * g.val ≤ (y 1).val ∧ (y 1).val < 16 * g.val + 16; omega
      simp only [List.mem_cons, List.not_mem_nil, or_false, exists_eq_or_imp, exists_eq_left]
      have h4 : (y 0).val = 0 ∨ (y 0).val = 1 ∨ (y 0).val = 2 ∨ (y 0).val = 3 := by
        have : (y 0).val < 4 := (y 0).isLt
        omega
      rcases h4 with h | h | h | h
      · exact .inr (.inr (.inr (hc 0 _ h0 (Fin.ext h))))
      · exact .inr (.inr (.inl (hc 1 _ h1 (Fin.ext h))))
      · exact .inr (.inl (hc 2 _ h2 (Fin.ext h)))
      · exact .inl (hc 3 _ h3 (Fin.ext h))

end Cert.Proof.KernelIdeal

end
-- ==== Proof.KernelIdeal.TcBlock.lean ====
module

public import proofs.«01_k».proof.Proof.KernelIdeal.TcValue
public import proofs.«01_k».proof.Proof.KernelIdeal.ScRow
public import Idealize.ShloMosaic.Lib.WritesUnit
public import Idealize.ShloMosaic.Lib.Pointwise

@[expose] public section

/-! One block of the TensorCore call, read element by element. -/

noncomputable section

namespace Cert.Proof.KernelIdeal

open Cert.KernelIdeal Cert.KernelIdeal.Gen
open Idealize.ShloMosaic
open Idealize.ShloMosaic.SparseCore (S V T)
open Cert.Proof

variable {F : FTy → Type} [FloatOps F]

theorem rowOff_inb : ∀ (m : Fin 16) (ch : Fin 3) (a : Fin 5),
    (![0, m.val, ch.val, 0, 0] : Fin 5 → ℕ) a + S1x1x1x32x256.size a ≤ S1x16x3x32x256.size a := by decide

variable (c : Dev nD) (arg2 : Memref sig .tc .vmem S1x16x3x32x256 .f32) (B : Buf (Elt F) (arg2.view.loc (T c : Thread nD τ)))

/-- Channel `ch` of candidate `m` as the body loads it. -/
def plane (m : Fin 16) (ch : Fin 3) : FVec F S32x256 .f32 :=
  shapeCast S32x256 (View.readAt (Elt F) arg2.view
    (Rect.unit (s := S1x16x3x32x256) ![0, m.val, ch.val, 0, 0] S1x1x1x32x256.size (rowOff_inb m ch)).toLoadRect B)
    shapeCasts_S1x1x1x32x256_S32x256

theorem txs_plane (m : ℕ) : txs c arg2 B m = divf (plane c arg2 B (cand m) 0) (plane c arg2 B (cand m) 2) :=
  match m with
  | 0 | 1 | 2 | 3 | 4 | 5 | 6 | 7 | 8 | 9 | 10 | 11 | 12 | 13 | 14 => rfl
  | n + 15 => by
    rw [show cand (n + 15) = 15 from Fin.ext (by simp [cand])]; rfl

theorem tys_plane (m : ℕ) : tys c arg2 B m = divf (plane c arg2 B (cand m) 1) (plane c arg2 B (cand m) 2) :=
  match m with
  | 0 | 1 | 2 | 3 | 4 | 5 | 6 | 7 | 8 | 9 | 10 | 11 | 12 | 13 | 14 => rfl
  | n + 15 => by
    rw [show cand (n + 15) = 15 from Fin.ext (by simp [cand])]; rfl

theorem cast_plane (v : S1x1x1x32x256.Idx → F .f32) (i : S32x256.Idx) :
    shapeCast S32x256 v shapeCasts_S1x1x1x32x256_S32x256 i = v (ix5 0 0 0 (i 0) (i 1)) := by
  pointwise

theorem plane_apply (m : Fin 16) (ch : Fin 3) (i : S32x256.Idx) :
    plane c arg2 B m ch i = arg2.view.read (Elt F) B (ix5 0 m ch (i 0) (i 1)) := by
  unfold plane
  refine (cast_plane _ i).trans ?_
  show arg2.view.read (Elt F) B _ = arg2.view.read (Elt F) B _
  congr 1
  funext a
  apply Fin.ext
  match a with
  | ⟨0, _⟩ => rfl
  | ⟨1, _⟩ => show m.val + 1 * 0 = m.val; omega
  | ⟨2, _⟩ => show ch.val + 1 * 0 = ch.val; omega
  | ⟨3, _⟩ => show 0 + 1 * (i 0).val = (i 0).val; omega
  | ⟨4, _⟩ => show 0 + 1 * (i 1).val = (i 1).val; omega

/-- The pixel results of a block: plane `k` holds result `k`. -/
def tcBlk (H : S1x16x3x32x256.Idx → F .f32) (z : S1x4x32x256.Idx) : BitVec 32 :=
  NmsMask.pix (fun m => FloatOps.divf (H (ix5 0 (cand m) 0 (z 2) (z 3))) (H (ix5 0 (cand m) 2 (z 2) (z 3))))
    (fun m => FloatOps.divf (H (ix5 0 (cand m) 1 (z 2) (z 3))) (H (ix5 0 (cand m) 2 (z 2) (z 3)))) (z 1).val

theorem out_tcBlk (k : Fin 4) (i : S32x256.Idx) :
    NmsMask.outV (txs c arg2 B) (tys c arg2 B) k.val 16 i = tcBlk (arg2.view.read (Elt F) B) (ix4 0 k (i 0) (i 1)) := by
  rw [NmsMask.outV_apply]
  simp only [txs_plane, tys_plane, divf, plane_apply]
  rfl

theorem plane_store (k : Fin 4) (inb : ∀ a : Fin 4, (![0, k.val, 0, 0] : Fin 4 → ℕ) a + S1x1x32x256.size a ≤ S1x4x32x256.size a)
    (x : (Rect.unit (s := S1x4x32x256) ![0, k.val, 0, 0] S1x1x32x256.size inb).shape.Idx) (hc : S32x256.ShapeCasts S1x1x32x256) :
    shapeCast S1x1x32x256 (NmsMask.outV (txs c arg2 B) (tys c arg2 B) k.val 16) hc x
      = tcBlk (arg2.view.read (Elt F) B) ((Rect.unit (s := S1x4x32x256) ![0, k.val, 0, 0] S1x1x32x256.size inb).emb x) := by
  have he : (Rect.unit (s := S1x4x32x256) ![0, k.val, 0, 0] S1x1x32x256.size inb).emb x = ix4 0 k (x 2) (x 3) := by
    funext a
    apply Fin.ext
    match a with
    | ⟨0, _⟩ =>
      have hx : (x 0).val < 1 := (x 0).isLt
      show 0 + 1 * (x 0).val = 0; omega
    | ⟨1, _⟩ =>
      have hx : (x 1).val < 1 := (x 1).isLt
      show k.val + 1 * (x 1).val = k.val; omega
    | ⟨2, _⟩ => show 0 + 1 * (x 2).val = (x 2).val; omega
    | ⟨3, _⟩ => show 0 + 1 * (x 3).val = (x 3).val; omega
  have hk := out_tcBlk c arg2 B k (ix2 (n0 := 32) (n1 := 256) (x 2) (x 3))
  refine Eq.trans ?_ (hk.trans (congrArg (tcBlk (arg2.view.read (Elt F) B)) he.symm))
  generalize NmsMask.outV (txs c arg2 B) (tys c arg2 B) k.val 16 = v
  pointwise

variable (i : grid1.Coords) (harg2 : arg2.IsWhole) (arg3 : Memref sig .tc .vmem S1x4x32x256 .i32) (harg3 : arg3.IsWhole)
  (f : Buf (Elt F) (arg3.view.loc (T c : Thread nD τ)))

/-- The pieces the body stores. -/
theorem tc_pieces : (tcRun c i arg2 harg2 arg3 harg3 B f).1 =
    [⟨Rect.unit (s := S1x4x32x256) ![0, 3, 0, 0] S1x1x32x256.size inb_S1x4x32x256_S1x1x32x256_0_3_0_0,
      k1_pay1 (tcRun.sl.r_207 c arg2 B) (tcRun.sl.r_208 c arg2 B) 15#32⟩,
     ⟨Rect.unit (s := S1x4x32x256) ![0, 2, 0, 0] S1x1x32x256.size inb_S1x4x32x256_S1x1x32x256_0_2_0_0,
      shapeCast S1x1x32x256 (tcRun.sl.v1847 c arg2 B) shapeCasts_S32x256_S1x1x32x256⟩,
     ⟨Rect.unit (s := S1x4x32x256) ![0, 1, 0, 0] S1x1x32x256.size inb_S1x4x32x256_S1x1x32x256_0_1_0_0,
      shapeCast S1x1x32x256 (tcRun.sl.v1684 c arg2 B) shapeCasts_S32x256_S1x1x32x256⟩,
     ⟨Rect.unit (s := S1x4x32x256) ![0, 0, 0, 0] S1x1x32x256.size inb_S1x4x32x256_S1x1x32x256_0_0_0_0,
      shapeCast S1x1x32x256 (tcRun.sl.v1521 c arg2 B) shapeCasts_S32x256_S1x1x32x256⟩] := by
  delta tcRun
  rfl

/-- The block the body leaves. -/
theorem tc_read : arg3.view.read (Elt F) (arg3.view.writes (Elt F) f (tcRun c i arg2 harg2 arg3 harg3 B f).1)
    = tcBlk (arg2.view.read (Elt F) B) := by
  rw [tc_pieces, (tc_out c arg2 B).1, (tc_out c arg2 B).2.1, (tc_out c arg2 B).2.2.1, (tc_out c arg2 B).2.2.2]
  funext y
  apply View.read_writes_apply_of_pieces
  · simp only [List.forall_mem_cons, List.not_mem_nil, false_imp_iff, implies_true, and_true]
    exact ⟨fun x => plane_store c arg2 B 3 _ x _, fun x => plane_store c arg2 B 2 _ x _,
      fun x => plane_store c arg2 B 1 _ x _, fun x => plane_store c arg2 B 0 _ x _⟩
  · exact View.cover_of_tiled (s := S1x4x32x256) _ S1x1x32x256.size (by rfl) y

end Cert.Proof.KernelIdeal

end
-- ==== Proof.KernelIdeal.ScTile.lean ====
module

public import proofs.«01_k».proof.Proof.KernelIdeal.ScRow

@[expose] public section

/-! One vector subcore's whole task: for each of the four images it fetches its 512 columns, turns them
into pixels sixteen at a time, and writes the four result rows back. -/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Nms

variable {F : FTy → Type}

local notation "𝕄" => MT nD τ sig (HIx 1) (Elt F) ℕ UU ℕ

local notation "xW" => (Memref.whole Cert.KernelIdeal.main_v9_scv : Memref Cert.KernelIdeal.sig Kind.scVector Space.hbm Cert.KernelIdeal.S4x32x16384 EltTy.f32)
local notation "oW" => (Memref.whole Cert.KernelIdeal.main_v10_scv : Memref Cert.KernelIdeal.sig Kind.scVector Space.hbm Cert.KernelIdeal.S4x4x16384 EltTy.i32)
local notation "bW" => (Memref.whole Cert.KernelIdeal.cc0_scratch0 : Memref Cert.KernelIdeal.sig Kind.scVector Space.vmem Cert.KernelIdeal.S32x512 EltTy.f32)
local notation "rW" => (Memref.whole Cert.KernelIdeal.cc0_scratch1 : Memref Cert.KernelIdeal.sig Kind.scVector Space.vmem Cert.KernelIdeal.S4x512 EltTy.i32)

variable [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀

/-- The SparseCore call's operand and result. -/
abbrev xLoc (d : Dev nD) : Loc nD τ sig := (SparseCore.T d).loc main_v9
abbrev oLoc (d : Dev nD) : Loc nD τ sig := (SparseCore.T d).loc main_v10

/-- What the SparseCore call computes of its operand: result `k` of image `n` at a column. -/
def scOut (X : S4x32x16384.Idx → F .f32) (z : S4x4x16384.Idx) : BitVec 32 :=
  pix (fun m => X (ix3 (z 0) ((cand m).castLE (by decide)) (z 2))) (fun m => X (ix3 (z 0) ((cand m).natAdd 16) (z 2))) (z 1).val

/-- The number of the subcore at a grid point, by which it takes its columns. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The columns of the subcore at a grid point, in every image and row. -/
def tileSet (w : ℕ) : Finset S4x4x16384.Idx := Finset.univ.filter fun z => (z 2).val / 512 = w

theorem off1_eq : ∀ (a : Fin 2) (b : Fin 16) (k : Fin k0_t1_loop.trips),
    k0_off1 (fun | 0 => a | 1 => b | ⟨_ + 2, h⟩ => absurd h (Nat.not_lt.2 (Nat.le_add_left _ _))) k
      = ![k.val, 0, 512 * (2 * b.val + a.val)] := by decide

theorem off38_eq : ∀ (a : Fin 2) (b : Fin 16) (k : Fin k0_t1_loop.trips),
    k0_off38 (fun | 0 => a | 1 => b | ⟨_ + 2, h⟩ => absurd h (Nat.not_lt.2 (Nat.le_add_left _ _))) k
      = ![k.val, 0, 512 * (2 * b.val + a.val)] := by decide

theorem coords_eq (L : grid0.Coords) :
    L = (fun | 0 => L 0 | 1 => L 1 | ⟨_ + 2, h⟩ => absurd h (Nat.not_lt.2 (Nat.le_add_left _ _))) := by
  funext a
  match a with
  | ⟨0, _⟩ => rfl
  | ⟨1, _⟩ => rfl

theorem off1 (L : grid0.Coords) (k : Fin k0_t1_loop.trips) : k0_off1 L k = ![k.val, 0, 512 * wid L] := by
  rw [coords_eq L]; exact off1_eq (L 0) (L 1) k

theorem off38 (L : grid0.Coords) (k : Fin k0_t1_loop.trips) : k0_off38 L k = ![k.val, 0, 512 * wid L] := by
  rw [coords_eq L]; exact off38_eq (L 0) (L 1) k

variable (d : Dev nD) (L : grid0.Coords)

/-- The subcore's thread. -/
abbrev vt : Thread nD τ := V d (cV L) (jV L)

theorem pts_x (q : PosShare TreeShare) (f : Buf (Elt F) (xLoc d)) :
    ((xW).view.loc (vt d L) ↦[(xW).view.set]{q} f : sProp 𝕄) = xLoc d ↦{q} f := by
  simp only [Memref.view_whole, View.set_whole]

/-- Image `k`'s window of the subcore's columns, in the operand and in the result. -/
abbrev xWin (k : Fin k0_t1_loop.trips) : Memref sig .scVector .hbm S32x512 .f32 :=
  ((xW).slice (Rect.unit (s := S4x32x16384) (k0_off1 L k) S1x32x512.size (k0_off1_inb L k)) (fun _ => rfl)).squeeze S32x512 squeezes_S1x32x512_S32x512
abbrev oWin (k : Fin k0_t1_loop.trips) : Memref sig .scVector .hbm S4x512 .i32 :=
  ((oW).slice (Rect.unit (s := S4x4x16384) (k0_off38 L k) S1x4x512.size (k0_off38_inb L k)) (fun _ => rfl)).squeeze S4x512 squeezes_S1x4x512_S4x512

/-- The result while the subcore works: the first `k` images done, the others as they were. -/
def upTo (X : S4x32x16384.Idx → F .f32) (f0 : S4x4x16384.Idx → BitVec 32) (k : ℕ) (z : S4x4x16384.Idx) : BitVec 32 :=
  if (z 0).val < k then scOut X z else f0 z

variable (q : PosShare TreeShare) (X : Buf (Elt F) (xLoc d)) (f0 : Buf (Elt F) (oLoc d))
  (O : CellTallies nD τ sig (HIx 1)) (W : Waits sig (HIx 1))

/-- Before trip `k` of the outer loop. -/
def inv1 (k : ℕ) (_ : PUnit) : sProp 𝕄 :=
  iprop(Transfers.MayWaits (vt d L) (none : HIx 1) O
    ∗ ((xW).view.loc (vt d L) ↦[(xW).view.set]{q} X)
    ∗ (oLoc d ↦[tileSet (wid L)]{fullShare} (upTo X f0 k : Buf (Elt F) (oLoc d)))
    ∗ (∃ f, (bW).view.loc (vt d L) ↦{fullShare} f)
    ∗ (∃ f, (rW).view.loc (vt d L) ↦{fullShare} f)
    ∗ semVal (vt d L, SemLoc.dma cc0_scoped0.sem) 0
    ∗ semVal (vt d L, SemLoc.dma cc0_scoped1.sem) 0
    ∗ ∃ W', ⌜∀ p ∈ W', p ∈ W ∨ p.2 = none⌝ ∗ owes (vt d L) O W')

/-- Before trip `g` of the inner loop, the input buffer holding `B`. -/
def inv2 (B : Buf (Elt F) ((bW).view.loc (vt d L))) (g : ℕ) (_ : PUnit) : sProp 𝕄 :=
  iprop(((bW).view.loc (vt d L) ↦{fullShare} B)
    ∗ ∃ f : Buf (Elt F) ((rW).view.loc (vt d L)), ⌜∀ y : S4x512.Idx, (y 1).val < 16 * g → f y = pixBuf B y⌝
      ∗ ((rW).view.loc (vt d L) ↦{fullShare} f))

theorem oWin_loc (k : Fin k0_t1_loop.trips) (S : Finset S4x4x16384.Idx) (f : Buf (Elt F) (oLoc d)) :
    ((oWin L k).view.loc (vt d L) ↦[S]{fullShare} f : sProp 𝕄) = oLoc d ↦[S]{fullShare} f := rfl

theorem oWin_emb (k : Fin k0_t1_loop.trips) (y : S4x512.Idx) :
    (((oWin L k).view.emb y : S4x4x16384.Idx) 0).val = k.val ∧ (((oWin L k).view.emb y : S4x4x16384.Idx) 1).val = (y 0).val
      ∧ (((oWin L k).view.emb y : S4x4x16384.Idx) 2).val = 512 * wid L + (y 1).val := by
  have e : ∀ a, (((oWin L k).view.emb y : S4x4x16384.Idx) a).val
      = k0_off38 L k a + 1 * ((Shape.reshapeEquiv (s := S1x4x512) (s' := S4x512) squeezes_S1x4x512_S4x512.numel_eq y) a).val := fun _ => rfl
  have r := Shape.reshapeEquiv_cons_one squeezes_S1x4x512_S4x512.numel_eq y
  have h1 : S1x4x512 = ⟨3, ![1, 4, 512]⟩ := rfl
  simp only [e, off38 L k, r]
  refine ⟨?_, ?_, ?_⟩
  · show k.val + 1 * 0 = _; omega
  · show 0 + 1 * (y 0).val = _; omega
  · show 512 * wid L + 1 * (y 1).val = _; omega

theorem xWin_emb (k : Fin k0_t1_loop.trips) (y : S32x512.Idx) :
    (((xWin L k).view.emb y : S4x32x16384.Idx) 0).val = k.val ∧ (((xWin L k).view.emb y : S4x32x16384.Idx) 1).val = (y 0).val
      ∧ (((xWin L k).view.emb y : S4x32x16384.Idx) 2).val = 512 * wid L + (y 1).val := by
  have e : ∀ a, (((xWin L k).view.emb y : S4x32x16384.Idx) a).val
      = k0_off1 L k a + 1 * ((Shape.reshapeEquiv (s := S1x32x512) (s' := S32x512) squeezes_S1x32x512_S32x512.numel_eq y) a).val := fun _ => rfl
  have r := Shape.reshapeEquiv_cons_one squeezes_S1x32x512_S32x512.numel_eq y
  simp only [e, off1 L k, r]
  refine ⟨?_, ?_, ?_⟩
  · show k.val + 1 * 0 = _; omega
  · show 0 + 1 * (y 0).val = _; omega
  · show 512 * wid L + 1 * (y 1).val = _; omega

/-- Where the window's elements lie. -/
theorem mem_oWin (k : Fin k0_t1_loop.trips) (z : S4x4x16384.Idx) :
    z ∈ (oWin L k).view.set ↔ (z 0).val = k.val ∧ (z 2).val / 512 = wid L := by
  have h1 : (z 1).val < 4 := (z 1).isLt
  constructor
  · intro hz
    obtain ⟨y, -, rfl⟩ := Finset.mem_map.1 hz
    have hy : (y 1).val < 512 := (y 1).isLt
    obtain ⟨e0, e1, e2⟩ := oWin_emb L k y
    exact ⟨e0, by rw [e2]; omega⟩
  · rintro ⟨h0, h2⟩
    refine Finset.mem_map.2 ⟨ix2 ⟨(z 1).val, h1⟩ ⟨(z 2).val - 512 * wid L, by omega⟩, Finset.mem_univ _, ?_⟩
    obtain ⟨e0, e1, e2⟩ := oWin_emb L k (ix2 ⟨(z 1).val, h1⟩ ⟨(z 2).val - 512 * wid L, by omega⟩)
    funext a
    apply Fin.ext
    match a with
    | ⟨0, _⟩ => exact e0.trans h0.symm
    | ⟨1, _⟩ => exact e1
    | ⟨2, _⟩ => exact e2.trans (by show 512 * wid L + ((z 2).val - 512 * wid L) = (z 2).val; omega)

theorem pixBuf_fetched (k : Fin k0_t1_loop.trips) (B : S32x512.Idx → F .f32)
    (hB : ∀ y, B y = X ((xWin L k).view.emb y)) (y : S4x512.Idx) : pixBuf B y = scOut X ((oWin L k).view.emb y) := by
  obtain ⟨e0, e1, e2⟩ := oWin_emb L k y
  have hx : ∀ r : Fin 32, B (ix2 r (y 1)) = X (ix3 (((oWin L k).view.emb y : S4x4x16384.Idx) 0) r (((oWin L k).view.emb y : S4x4x16384.Idx) 2)) := by
    intro r
    rw [hB]
    congr 1
    obtain ⟨e0', e1', e2'⟩ := xWin_emb L k (ix2 r (y 1))
    funext a
    apply Fin.ext
    match a with
    | ⟨0, _⟩ => exact e0'.trans e0.symm
    | ⟨1, _⟩ => exact e1'
    | ⟨2, _⟩ => exact e2'.trans e2.symm
  unfold pixBuf scOut
  simp only [hx, e1]

/-- Writing a whole window leaves what was written. -/
theorem oWin_writes (k : Fin k0_t1_loop.trips) (f : (oWin L k).view.ty.Contents (Elt F)) (w : S4x512.Idx → Elt F .i32) (y : S4x512.Idx) :
    (oWin L k).view.writes (Elt F) f [⟨Rect.whole S4x512, w⟩] ((oWin L k).view.emb y) = w y := by
  have h := congrFun (View.read_writes_whole (oWin L k).view f w) y
  generalize (oWin L k).view.writes (Elt F) f [⟨Rect.whole S4x512, w⟩] = g at h ⊢
  exact h

theorem trip1 (k : Fin k0_t1_loop.trips) (v : BitVec 32) :
    inv1 d L q X f0 O W k.val ⟨⟩ ⊢ wp frame (wpE (defs₀ (F := F)) 𝒱₀ (vt d L) none) Set.univ
      (k0_t1_body L xW (Memref.isWhole_whole _) oW (Memref.isWhole_whole _) bW (Memref.isWhole_whole _) rW (Memref.isWhole_whole _) cc0_scoped0 cc0_scoped1 v k ⟨⟩)
      fun _ => inv1 d L q X f0 O W (k.val + 1) ⟨⟩ := by
  have hsplit : (oLoc d ↦[tileSet (wid L)]{fullShare} (upTo X f0 k.val : Buf (Elt F) (oLoc d)) : sProp 𝕄) ⊢
      iprop(((oWin L k).view.loc (vt d L) ↦[(oWin L k).view.set]{fullShare} (upTo X f0 k.val : Buf (Elt F) (oLoc d)))
        ∗ oLoc d ↦[tileSet (wid L) \ (oWin L k).view.set]{fullShare} (upTo X f0 (k.val + 1) : Buf (Elt F) (oLoc d))) := by
    have hsub : (oWin L k).view.set ⊆ tileSet (wid L) := fun z hz =>
      Finset.mem_filter.2 ⟨Finset.mem_univ _, ((mem_oWin L k z).1 hz).2⟩
    refine (pointsTo_split_subset hsub).1.trans (sep_mono .rfl (BIBase.Entails.of_eq (pointsTo_congr fun z hz => ?_)))
    have hz' := Finset.mem_sdiff.1 hz
    have hne : (z 0).val ≠ k.val := fun h => hz'.2 ((mem_oWin L k z).2 ⟨h, (Finset.mem_filter.1 hz'.1).2⟩)
    show upTo X f0 k.val z = upTo X f0 (k.val + 1) z
    unfold upTo
    split <;> split <;> first | rfl | (exfalso; omega)
  have hjoin : ∀ g : Buf (Elt F) (oLoc d), (∀ y : S4x512.Idx, g ((oWin L k).view.emb y) = scOut X ((oWin L k).view.emb y)) →
      iprop(((oWin L k).view.loc (vt d L) ↦[(oWin L k).view.set]{fullShare} g)
        ∗ oLoc d ↦[tileSet (wid L) \ (oWin L k).view.set]{fullShare} (upTo X f0 (k.val + 1) : Buf (Elt F) (oLoc d)))
      ⊢ (oLoc d ↦[tileSet (wid L)]{fullShare} (upTo X f0 (k.val + 1) : Buf (Elt F) (oLoc d)) : sProp 𝕄) := by
    intro g hg
    have hsub : (oWin L k).view.set ⊆ tileSet (wid L) := fun z hz =>
      Finset.mem_filter.2 ⟨Finset.mem_univ _, ((mem_oWin L k z).1 hz).2⟩
    refine (sep_mono (BIBase.Entails.of_eq (pointsTo_congr fun z hz => ?_)) .rfl).trans (pointsTo_split_subset hsub).2
    have hk := ((mem_oWin L k z).1 hz).1
    obtain ⟨y, -, rfl⟩ := Finset.mem_map.1 hz
    show g _ = upTo X f0 (k.val + 1) _
    unfold upTo
    rw [if_pos (by omega)]
    exact hg y
  unfold inv1 k0_t1_body
  iintro ⟨#Hmw, Hx, Ho, ⟨%b, Hb⟩, ⟨%r, Hr⟩, Hs0, Hs1, %W', %hW', HO⟩
  ihave Ho' := hsplit $$ Ho
  icases Ho' with ⟨Ho, Hrest⟩
  sl_exec (disch := exact View.amount_pos _ _ (by decide))
  have hB : ∀ y : S32x512.Idx, (View.write (Elt F) (Memref.whole cc0_scratch0).view b (trip1.sl.dma0 d L X k) Finset.univ : S32x512.Idx → F .f32) y
      = X ((xWin L k).view.emb y) := by
    intro y
    exact (congrFun (View.write_whole_univ cc0_scratch0 b (trip1.sl.dma0 d L X k)) y).trans rfl
  generalize View.write (Elt F) (Memref.whole cc0_scratch0).view b (trip1.sl.dma0 d L X k) Finset.univ = B at hB ⊢
  sl_for (inv2 d L B) $$ [Hb Hr]
  case region =>
    intro g _
    unfold inv2
    iintro ⟨Hb, %f, %hf, Hr⟩
    have hstep := (trip d L g B f).2.trans (wp_mono (Q' := fun _ => iprop(((bW).view.loc (vt d L) ↦{fullShare} B)
        ∗ ∃ f : Buf (Elt F) ((rW).view.loc (vt d L)), ⌜∀ y : S4x512.Idx, (y 1).val < 16 * (g.val + 1) → f y = pixBuf B y⌝
          ∗ ((rW).view.loc (vt d L) ↦{fullShare} f))) frame _ _ (fun _ => by
      iintro ⟨Hb, Hr⟩
      isplitl [Hb]; · iexact Hb
      iexists _; isplitr
      rotate_left
      · iexact Hr
      · ipureintro; exact trip_read d L g B f hf))
    iapply hstep
    isplitl [Hb]; · iexact Hb
    iexact Hr
  · unfold inv2
    isplitl [Hb]; · iexact Hb
    iexists r; isplitr
    · ipureintro; exact fun y hy => absurd hy (by omega)
    · iexact Hr
  iintro %r' HI
  unfold inv2
  icases HI with ⟨Hb, %f, %hf, Hr⟩
  sl_exec (disch := exact View.amount_pos _ _ (by decide))
  have hg : ∀ y : S4x512.Idx, ((oWin L k).view.writes (Elt F) (upTo X f0 k.val) [⟨Rect.whole S4x512, trip1.sl.dma0_1 d L f⟩]
      : Buf (Elt F) (oLoc d)) ((oWin L k).view.emb y) = scOut X ((oWin L k).view.emb y) := by
    intro y
    rw [oWin_writes]
    rw [← pixBuf_fetched d L X k B hB y, ← hf y (by
      have hy : (y 1).val < 512 := (y 1).isLt
      have ht : Scf.trips k0_t2_loop.lb k0_t2_loop.ub k0_t2_loop.st = 32 := trips_eq
      omega)]
    rfl
  ihave Ho' := hjoin _ hg $$ [Ho Hrest]
  · isplitl [Ho]; · iexact Ho
    iexact Hrest
  rw [wp_ret]
  imodintro
  isplitr; · iexact Hmw
  isplitl [Hx]; · iexact Hx
  isplitl [Ho']; · iexact Ho'
  isplitl [Hb]; · iexists _; iexact Hb
  isplitl [Hr]; · iexists _; iexact Hr
  isplitl [Hs0]; · iexact Hs0
  isplitl [Hs1]; · iexact Hs1
  iexists _; isplitr
  rotate_left
  · iexact HO
  · ipureintro
    intro p hp
    rcases Finset.mem_insert.mp hp with hp | hp
    · exact .inr (hp ▸ rfl)
    rcases Finset.mem_insert.mp hp with hp | hp
    · exact .inr (hp ▸ rfl)
    · exact hW' p hp

/-! ## The whole task -/

abbrev cAcell : GSem nD τ sig := (vt d L, .dma cc0_scoped0.sem)
abbrev cBcell : GSem nD τ sig := (vt d L, .dma cc0_scoped1.sem)

omit [FloatOps F] in
/-- The subcore's own semaphores: the task's two and the rest. -/
theorem ownSems0_V :
    (ownSems0 (vt d L) : sProp 𝕄)
      = iprop(semVal (cAcell d L) 0 ∗ semVal (cBcell d L) 0
          ∗ bigSep (((ownCells (vt d L)).erase (cAcell d L)).erase (cBcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩)]

theorem scratch_ne : (cc0_scratch1 : Ref sig .scVector) ≠ cc0_scratch0 := by decide

omit [FloatOps F] in
/-- The subcore's own buffers: the task's two, at some contents, and the rest. -/
theorem ownBufs_V :
    (ownBufs (vt d L) : sProp 𝕄)
      = iprop((∃ f, (bW).view.loc (vt d L) ↦{fullShare} f) ∗ (∃ f, (rW).view.loc (vt d L) ↦{fullShare} f)
          ∗ bigSep (((ownRefs (τ := τ) (.scVector (cV L) (jV L))).erase ((Proc.scVector (cV L) (jV L)).devRef cc0_scratch0)).erase
                ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (b := (Proc.scVector (cV L) (jV L)).devRef cc0_scratch0) rfl)).trans ?_
  congr 1
  exact SparseCore.bigSep_erase' (Finset.mem_erase.mpr ⟨fun h => scratch_ne ((Proc.scVector (cV L) (jV L)).devRef_injective h), SparseCore.Cfg.mem_ownRefs_of_owner (b := (Proc.scVector (cV L) (jV L)).devRef cc0_scratch1) rfl⟩)

theorem upTo_zero (X : S4x32x16384.Idx → F .f32) (f0 : S4x4x16384.Idx → BitVec 32) : upTo X f0 0 = f0 := by
  funext z; unfold upTo; rw [if_neg (by omega)]

theorem upTo_four (X : S4x32x16384.Idx → F .f32) (f0 : S4x4x16384.Idx → BitVec 32) : upTo X f0 4 = scOut X := by
  funext z; unfold upTo; rw [if_pos (show (z 0).val < 4 from (z 0).isLt)]

theorem trips1_eq : Scf.trips k0_t1_loop.lb k0_t1_loop.ub k0_t1_loop.st = 4 := by decide

/-- The task of the subcore at `L`, given a share of the operand and its columns of the result. -/
theorem tile_body (hF : (K (F := F)).Facts) (hO : ∀ g, O g none = 0) :
    (iprop(levAts (K (F := F)).L (K (F := F)).lev ∗ emp
        ∗ ((xLoc d ↦{q} X) ∗ oLoc d ↦[tileSet (wid L)]{fullShare} f0)
        ∗ scopedBufs (vt d L) ∗ scopedSems0 (vt d L) ∗ owes (vt d L) O W) : sProp 𝕄)
      ⊢ wp frame (wpE (defs₀ (F := F)) 𝒱₀ (vt d L) none) Set.univ
          (cc0__sc_body L xW (Memref.isWhole_whole _) oW (Memref.isWhole_whole _) bW (Memref.isWhole_whole _) rW (Memref.isWhole_whole _) cc0_scoped0 cc0_scoped1)
          fun _ => iprop(((xLoc d ↦{q} X) ∗ oLoc d ↦[tileSet (wid L)]{fullShare} (scOut X : Buf (Elt F) (oLoc d)))
            ∗ scopedBufs (vt d L) ∗ scopedSems0 (vt d L) ∗ ∃ W', ⌜∀ p ∈ W', p ∈ W ∨ p.2 = none⌝ ∗ owes (vt d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨Hb, Hr, Hbufs⟩, ⟨Hs0, Hs1, Hsems⟩, HO⟩
  ihave Hmw := ((K (F := F)).mayWaits_none (thr := vt d L) hO) $$ Hlv
  ihave Hx' := (BIBase.Entails.of_eq (pts_x (F := F) d L q X).symm) $$ Hx
  sl_exec
  sl_for (inv1 d L q X f0 O W) $$ [Hmw Hx' Ho Hb Hr Hs0 Hs1 HO]
  case region =>
    intro k _
    exact trip1 d L q X f0 O W k _
  · unfold inv1
    rw [upTo_zero]
    isplitl [Hmw]; · iexact Hmw
    isplitl [Hx']; · iexact Hx'
    isplitl [Ho]; · iexact Ho
    isplitl [Hb]; · iexact Hb
    isplitl [Hr]; · iexact Hr
    isplitl [Hs0]; · iexact Hs0
    isplitl [Hs1]; · iexact Hs1
    iexists W; isplitr
    · ipureintro; exact fun p hp => .inl hp
    · iexact HO
  iintro %_ HI
  rw [trips1_eq]
  unfold inv1
  rw [upTo_four]
  icases HI with ⟨-, Hx, Ho, Hb, Hr, Hs0, Hs1, %W', %hW', HO⟩
  sl_exec
  ihave Hx' := (BIBase.Entails.of_eq (pts_x (F := F) d L q X)) $$ Hx
  rw [wp_ret]
  imodintro
  isplitl [Hx' Ho]
  · isplitl [Hx']; · iexact Hx'
    iexact Ho
  isplitl [Hb Hr Hbufs]
  · isplitl [Hb]; · iexact Hb
    isplitl [Hr]; · iexact Hr
    iexact Hbufs
  isplitl [Hs0 Hs1 Hsems]
  · isplitl [Hs0]; · iexact Hs0
    isplitl [Hs1]; · iexact Hs1
    iexact Hsems
  iexists W'; isplitr
  · ipureintro; exact hW'
  · iexact HO

end Cert.Proof.KernelIdeal

end
-- ==== Proof.KernelIdeal.ScLaunch.lean ====
module

public import proofs.«01_k».proof.Proof.KernelIdeal.ScTile
public import proofs.«01_k».proof.Proof.Gen.KernelIdeal.Launch

@[expose] public section

/-! The SparseCore call as the launch sees it: what the handshakes carry to the subcores and back, the
subcores' obligation, and the operand and the result dealt to the thirty-two subcores and put together again. -/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable [FloatOps F]

abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' protocol, and the one of the TensorCore call's transfers. -/
def EH : Emb UH (MT nD τ sig (HIx 1) (Elt F) ℕ UU ℕ) := embL
def EP : Emb UP (MT nD τ sig (HIx 1) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- Subcore `i` of SparseCore `c` has number `2 i + c`. -/
def num (c : Fin 2) (i : Fin 16) : Fin 32 := ⟨2 * i.val + c.val, by omega⟩

def numEquiv : Fin 2 × Fin 16 ≃ Fin 32 where
  toFun p := num p.1 p.2
  invFun w := (⟨w.val % 2, by omega⟩, ⟨w.val / 2, by omega⟩)
  left_inv p := by
    obtain ⟨c, i⟩ := p
    simp only [num, Prod.mk.injEq]
    exact ⟨Fin.ext (by show (2 * i.val + c.val) % 2 = c.val; omega), Fin.ext (by show (2 * i.val + c.val) / 2 = i.val; omega)⟩
  right_inv w := Fin.ext (by show 2 * (w.val / 2) + w.val % 2 = w.val; omega)

variable (X : (d : Dev nD) → Buf (Elt F) (xLoc d)) (f0 : (d : Dev nD) → Buf (Elt F) (oLoc d))

/-- The result of the SparseCore call on device `d`. -/
def scRes (d : Dev nD) : Buf (Elt F) (oLoc d) := scOut (X d)

/-- A subcore is handed a share of the operand and its own columns of the result. -/
abbrev taskPts (d : Dev nD) (w : Fin 32) (f : Buf (Elt F) (oLoc d)) : sProp 𝕄 :=
  iprop((xLoc d ↦{shareTok fullShare 32 w} X d) ∗ oLoc d ↦[tileSet w.val]{fullShare} f)

abbrev corePts (d : Dev nD) (c : Fin 2) (f : Buf (Elt F) (oLoc d)) : sProp 𝕄 :=
  bigSep Finset.univ fun i : Fin 16 => taskPts X d (num c i) f

def P : (K (F := F)).Pay (nD := nD) (Val := Elt F) (Name := ℕ) (U := UU) where
  st := fun q d c => match q with | 0 => corePts X d c (f0 d)
  dn := fun q d c => match q with | 0 => corePts X d c (scRes X d)
  go := fun q d c i => match q with | 0 => taskPts X d (num c i) (f0 d)
  td := fun q d c i => match q with | 0 => taskPts X d (num c i) (scRes X d)
  x := fun _ _ => iprop(emp)

instance P_storable : (P X f0).IsStorable where
  st q d c := match q with | 0 => (inferInstance : BI.Storable (upEmb : UEmb _ 𝕄) (corePts X d c (f0 d)))
  dn q d c := match q with | 0 => (inferInstance : BI.Storable (upEmb : UEmb _ 𝕄) (corePts X d c (scRes X d)))
  go q d c i := match q with | 0 => (inferInstance : BI.Storable (upEmb : UEmb _ 𝕄) (taskPts X d (num c i) (f0 d)))
  td q d c i := match q with | 0 => (inferInstance : BI.Storable (upEmb : UEmb _ 𝕄) (taskPts X d (num c i) (scRes X d)))

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v9_scv) (Memref.isWhole_whole _) (Memref.whole main_v10_scv) (Memref.isWhole_whole _)
          (Memref.whole cc0_scratch0) (Memref.isWhole_whole _) (Memref.whole cc0_scratch1) (Memref.isWhole_whole _)
          cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P X f0) v₀ 0 := by
  intro d c i O W hO _ _
  simp only [show (P X f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (shareTok fullShare 32 (num c i)) (X d) (f0 d) O W hF hO).trans
    (wp_mono frame _ _ fun _ => obl_post)

theorem vecSplit : (K (F := F)).VecSplit' (P X f0) 0 := by
  intro d c
  show corePts X d c (f0 d) ⊢ |={Set.univ}=> iprop(corePts X d c (f0 d) ∗ (corePts X d c (scRes X d) -∗ corePts X d c (scRes X d)))
  iintro H; imodintro
  isplitl [H]; · iexact H
  iintro H; iexact H

/-! ## The operand and the result, dealt and put together -/

omit [FloatOps F] in
theorem tileSet_disjoint : ∀ i ∈ (Finset.univ : Finset (Fin 32)), ∀ j ∈ (Finset.univ : Finset (Fin 32)), i ≠ j →
    Disjoint (tileSet i.val) (tileSet j.val) := by
  intro i _ j _ h
  refine Finset.disjoint_left.mpr fun z hi hj => h (Fin.ext ?_)
  exact (Finset.mem_filter.mp hi).2.symm.trans (Finset.mem_filter.mp hj).2

omit [FloatOps F] in
theorem tileSet_cover : (Finset.univ : Finset (Fin 32)).biUnion (fun w => tileSet w.val) = Finset.univ := by
  refine Finset.eq_univ_of_forall fun z => ?_
  have hz : (z 2).val < 16384 := (z 2).isLt
  exact Finset.mem_biUnion.mpr ⟨⟨(z 2).val / 512, by omega⟩, Finset.mem_univ _, Finset.mem_filter.mpr ⟨Finset.mem_univ _, rfl⟩⟩

omit [FloatOps F] in
theorem oPts_tiles (d : Dev nD) (f : Buf (Elt F) (oLoc d)) :
    (oLoc d ↦{fullShare} f : sProp 𝕄) = bigSep Finset.univ fun w : Fin 32 => oLoc d ↦[tileSet w.val]{fullShare} f := by
  rw [← pointsTo_biUnion Finset.univ (ℓ := oLoc d) (fun w : Fin 32 => tileSet w.val) tileSet_disjoint, tileSet_cover]; try rfl

omit [FloatOps F] in
theorem cores_eq (d : Dev nD) (f : Buf (Elt F) (oLoc d)) :
    (bigSep Finset.univ fun c : Fin 2 => corePts X d c f)
      = iprop((bigSep Finset.univ fun w : Fin 32 => xLoc d ↦{shareTok fullShare 32 w} X d) ∗ oLoc d ↦{fullShare} f) := by
  rw [oPts_tiles, ← bigSep_sep', bigSep_univ_equiv numEquiv, bigSep_univ_prod]
  rfl

/-- From the operand and the result whole, what the two SparseCores are handed, and a share kept. -/
theorem st_intro (d : Dev nD) :
    iprop((xLoc d ↦{fullShare} X d) ∗ oLoc d ↦{fullShare} f0 d)
      ⊢ (iprop((xLoc d ↦{shareDrop fullShare 32} X d) ∗ bigSep Finset.univ fun c : Fin ((K (F := F)).nCore 0) => (P X f0).st 0 d c) : sProp 𝕄) := by
  rw [show (bigSep Finset.univ fun c : Fin ((K (F := F)).nCore 0) => (P X f0).st 0 d c) = _ from cores_eq X d (f0 d)]
  iintro ⟨Hx, Ho⟩
  ihave Hx := (Transfers.pointsTo_toks_split fullShare 32) $$ Hx
  icases Hx with ⟨Hk, Hx⟩
  isplitl [Hk]; · iexact Hk
  isplitl [Hx] <;> iassumption

/-- And back. -/
theorem dn_elim (d : Dev nD) :
    iprop((xLoc d ↦{shareDrop fullShare 32} X d) ∗ bigSep Finset.univ fun c : Fin ((K (F := F)).nCore 0) => (P X f0).dn 0 d c)
      ⊢ (iprop((xLoc d ↦{fullShare} X d) ∗ oLoc d ↦{fullShare} scRes X d) : sProp 𝕄) := by
  rw [show (bigSep Finset.univ fun c : Fin ((K (F := F)).nCore 0) => (P X f0).dn 0 d c) = _ from cores_eq X d (scRes X d)]
  iintro ⟨Hk, Hx, Ho⟩
  isplitl [Hk Hx]
  · iapply (Transfers.pointsTo_toks_join fullShare 32)
    isplitl [Hk] <;> iassumption
  iexact Ho

/-! ## The launch's ghost element -/

def u₀ : UU := (initOf (K (F := F)).hsCells (K (F := F)).hsToks,
  (initOf (Pipeline.cells cfgs cellOf_inj) (Pipeline.launchToks cfgs cellOf_inj), 1))

/-- What the launch deals a device's @main: the ghost state of the TensorCore call's transfers. -/
abbrev G (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X f0).x q thr) := by
  unfold u₀
  iintro Hu
  ihave H := (ownU_pair _ _) $$ Hu
  icases H with ⟨HH, HR⟩
  ihave H := (own_pair_emb embR _ _) $$ HR
  icases H with ⟨HP, -⟩
  ihave HP := (show BI.own (((Emb.inl : Emb UP (UP × Counters)).trans embR) (initOf (Pipeline.cells cfgs cellOf_inj) (Pipeline.launchToks cfgs cellOf_inj)))
    ⊢ (BI.own (EP (initOf (Pipeline.cells cfgs cellOf_inj) (Pipeline.launchToks cfgs cellOf_inj))) : sProp 𝕄) from BI.Entails.refl _) $$ HP
  imod (Pipeline.fund_ghost cfgs EP cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

end Cert.Proof.KernelIdeal

end
-- ==== Proof.KernelIdeal.TcRegion.lean ====
module

public import proofs.«01_k».proof.Proof.KernelIdeal.TcBlock
public import proofs.«01_k».proof.Proof.KernelIdeal.ScLaunch
public import proofs.«01_k».proof.Proof.Gen.KernelIdeal.Points
public import Idealize.ShloMosaic.Lib.Pipeline.RegionArraysS
public import Idealize.ShloMosaic.Lib.Pipeline.FrameBody

@[expose] public section

/-! The TensorCore call as a region of the program: what its pipeline stages, computes and writes back. -/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]

/-- The block the pipeline stages at point `t`, from a valuation of the buffers. -/
def inBlk (W : Valuation τ sig (Elt F)) (t : Fin cfg1.N) : S1x16x3x32x256.Idx → F .f32 :=
  ((cfg1.win 0).blk t).view.read (Elt F) (W (Proc.devRef .tc main_v12))

/-- The proof data of the call, entered at a valuation. -/
def tcDat (W : Valuation τ sig (Elt F)) (c : Dev nD) : Dat τ (Elt F) (HIx 1) ℕ UU ℕ cfg1 c where
  A w := W (Proc.devRef .tc (Pipeline.arrRef spec1 w))
  after w t := match w with
    | ⟨0, _⟩ => inBlk W t
    | ⟨1, _⟩ => tcBlk (inBlk W t)
  Φ _ := iprop(emp)
  q _ := fullShare
  owed _ := 0

variable (W : Dev nD → Valuation τ sig (Elt F))

abbrev adm : (p : Fin 1) → (pcfgs (F := F) p).Adm := fun p => (cfgs p).toPCfg_adm

def pdats (p : Fin 1) (c : Dev nD) : Dat τ (Elt F) (HIx 1) ℕ UU ℕ (Pipeline.pin (pcfgs (F := F)) adm p) c := tcDat (W c) c

theorem before_in (c : Dev nD) (t : Fin cfg1.N) (d : (cfg1.win 0).block.Idx → Elt F (cfg1.win 0).elt) :
    (tcDat (W c) c).before 0 t d = inBlk (W c) t := by
  unfold Dat.before; rw [if_pos (fetch1_0 t)]; rfl

theorem body_row (t : Fin cfg1.N) : defs₀ (F := F) .tc cfg1.body (cfg1.bodyArgs t (cfg1.slots t)) = bodyAt1 t := by
  unfold defs₀; rfl

theorem body_sound (c : Dev nD) (t : Fin cfg1.N) :
    iprop((tcDat (W c) c).Φ t.castSucc ∗ (tcDat (W c) c).owesAt none t.castSucc
        ∗ (∃ d, owns (T c) (st1_0 t) fullShare ((tcDat (W c) c).before 0 t d))
        ∗ (∃ d, owns (T c) (st1_1 t) fullShare ((tcDat (W c) c).before 1 t d)))
      ⊢ wp frame (wpE (defs₀ (F := F)) 𝒱₀ (T c) none) Set.univ (bodyAt1 t) fun _ =>
        (iprop((tcDat (W c) c).Φ t.succ ∗ (tcDat (W c) c).owesAt none t.succ
          ∗ owns (T c) (st1_0 t) fullShare (inBlk (W c) t) ∗ owns (T c) (st1_1 t) fullShare (tcBlk (inBlk (W c) t))) : sProp 𝕄) := by
  rw [show (tcDat (W c) c).owesAt none t.succ = (tcDat (W c) c).owesAt none t.castSucc from rfl,
    show (tcDat (W c) c).Φ t.succ = (tcDat (W c) c).Φ t.castSucc from rfl]
  unfold owns
  iintro ⟨HΦ, Ho, ⟨%d0, %f0, %hf0, H0⟩, ⟨%d1, %f1, -, H1⟩⟩
  rw [before_in] at hf0
  rw [← hf0]
  ihave H := (tcRun c (grid1.coords t) (st1_0 t) (hstage1_0 ((cfg1.slots t 0).cast nbuf1_0)) (st1_1 t) (hstage1_1 ((cfg1.slots t 1).cast nbuf1_1)) f0 f1).2 $$ [H0 H1]
  · isplitl [H0] <;> iassumption
  iapply (wp_wand _ _ _) $$ [H] [HΦ Ho]
  · iexact H
  iintro %_ ⟨H0, H1⟩
  isplitl [HΦ]; · iexact HΦ
  isplitl [Ho]; · iexact Ho
  isplitl [H0]
  · iexists _; isplitr; swap; (· iexact H0); ipureintro; rfl
  iexists _; isplitr; swap; (· iexact H1); ipureintro
  exact tc_read c (st1_0 t) f0 _ _ _ _ f1

theorem tc_body (c : Dev nD) : Pipeline.BodyObligation (tcDat (W c) c) (defs₀ (F := F)) 𝒱₀ none Set.univ := fun t => by
  rw [bigSep_W1, bigSep_W1, body_row]
  exact triple_restated (body_sound W c t) rfl .rfl fun _ => .rfl

/-- The call's region. -/
def region : Pipeline.RegionSeg (pcfgs (F := F)) adm (pdats W) none (defs₀ (F := F)) 𝒱₀ (K (F := F)).L (K (F := F)).lev 0 :=
  Pipeline.RegionSeg.ofHeldIn (pcfgs (F := F)) adm (pdats W) none (defs₀ (F := F)) 𝒱₀ (K (F := F)).L (K (F := F)).lev 0
    (fun _ => 0) (Pipeline.ucRefs τ sig) (fun _ => iprop(emp)) (fun _ => iprop(emp)) launch1.toP rfl
    (fun c => (tc_body W c).loose) (fun _ _ => rfl) (fun _ => rfl) (fun c => (tcDat (W c) c).share_full fun _ => rfl)
    (fun c => by
      rw [show Pipeline.scopedRest (Pipeline.pin (pcfgs (F := F)) adm 0).spec c = iprop(emp) from scopedRest1_eq c]
      show _ ⊢ iprop(emp)
      iintro ⟨-, H⟩; iexact H)
    (fun c => by
      rw [show Pipeline.scopedRest (Pipeline.pin (pcfgs (F := F)) adm 0).spec c = iprop(emp) from scopedRest1_eq c]
      show iprop(emp) ⊢ _
      iintro H; isplitl [H]; · iexact H
      iempintro)
    (fun _ => 0) ⟨fun _ _ _ => Finset.mem_univ _, fun _ _ _ => le_refl _, fun _ _ _ h => absurd h (lt_irrefl _)⟩
    (fun _ => iprop(emp)) W (fun _ _ => rfl)

end Cert.Proof.KernelIdeal

end
-- ==== Proof.KernelIdeal.Main.lean ====
module

public import proofs.«01_k».proof.Proof.KernelIdeal.TcRegion

@[expose] public section

/-! The whole program on one device: the host operations, the SparseCore call, the TensorCore call, and its run. -/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq)
open Idealize.ShloMosaic.Pipeline (ucRefs sub_ucRefs)

variable {F : FTy → Type}

local notation "𝕄" => MT nD τ sig (HIx 1) (Elt F) ℕ UU ℕ

variable [FloatOps F]

/-! ## The host operations, in three runs -/

/-- Up to the SparseCore call. -/
def preOps : List (HloOp τ sig (Elt F)) := [
    StableHlo.binary main_arg0 main_arg1 main_v0 ((fun l r => Host.dotGeneral dot_S4x16x3x256x256_S4x3x3_S4x16x256x256x3_2_2_134_1_0_0 none l r) : (⟨S4x16x3x256x256, .f32⟩ : BufTy).Contents (Elt F) → (⟨S4x3x3, .f32⟩ : BufTy).Contents (Elt F) → (⟨S4x16x256x256x3, .f32⟩ : BufTy).Contents (Elt F)),
    StableHlo.unary main_v0 main_v1 ((transpose S4x16x3x256x256 [0, 1, 4, 2, 3] · transposes_S4x16x256x256x3_S4x16x3x256x256_0_1_4_2_3) : (⟨S4x16x256x256x3, .f32⟩ : BufTy).Contents (Elt F) → (⟨S4x16x3x256x256, .f32⟩ : BufTy).Contents (Elt F)),
    StableHlo.unary main_v1 main_v2 ((extractStridedSlice S4x16x3x64x256 ![0, 0, 0, 192, 0] · slices_S4x16x3x256x256_S4x16x3x64x256_0_0_0_192_0) : (⟨S4x16x3x256x256, .f32⟩ : BufTy).Contents (Elt F) → (⟨S4x16x3x64x256, .f32⟩ : BufTy).Contents (Elt F)),
    StableHlo.reshape main_v2 main_v3 (rfl : (.f32 : EltTy) = .f32) shapeCasts_S4x16x3x64x256_S4x16x3x16384,
    StableHlo.unary main_v3 main_v4 ((extractStridedSlice S4x16x2x16384 ![0, 0, 0, 0] · slices_S4x16x3x16384_S4x16x2x16384_0_0_0_0) : (⟨S4x16x3x16384, .f32⟩ : BufTy).Contents (Elt F) → (⟨S4x16x2x16384, .f32⟩ : BufTy).Contents (Elt F)),
    StableHlo.unary main_v3 main_v5 ((extractStridedSlice S4x16x1x16384 ![0, 0, 2, 0] · slices_S4x16x3x16384_S4x16x1x16384_0_0_2_0) : (⟨S4x16x3x16384, .f32⟩ : BufTy).Contents (Elt F) → (⟨S4x16x1x16384, .f32⟩ : BufTy).Contents (Elt F)),
    StableHlo.unary main_v5 main_v6 (broadcastInDim S4x16x2x16384 ![0, 1, 2, 3] bcast_S4x16x1x16384_S4x16x2x16384_0_1_2_3 : (⟨S4x16x1x16384, .f32⟩ : BufTy).Contents (Elt F) → (⟨S4x16x2x16384, .f32⟩ : BufTy).Contents (Elt F)),
    StableHlo.binary main_v4 main_v6 main_v7 (Host.divf : (⟨S4x16x2x16384, .f32⟩ : BufTy).Contents (Elt F) → (⟨S4x16x2x16384, .f32⟩ : BufTy).Contents (Elt F) → (⟨S4x16x2x16384, .f32⟩ : BufTy).Contents (Elt F)),
    StableHlo.unary main_v7 main_v8 ((transpose S4x2x16x16384 [0, 2, 1, 3] · transposes_S4x16x2x16384_S4x2x16x16384_0_2_1_3) : (⟨S4x16x2x16384, .f32⟩ : BufTy).Contents (Elt F) → (⟨S4x2x16x16384, .f32⟩ : BufTy).Contents (Elt F)),
    StableHlo.reshape main_v8 main_v9 (rfl : (.f32 : EltTy) = .f32) shapeCasts_S4x2x16x16384_S4x32x16384]

/-- Between the two calls. -/
def midOps : List (HloOp τ sig (Elt F)) := [
    StableHlo.reshape main_v10 main_v11 (rfl : (.i32 : EltTy) = .i32) shapeCasts_S4x4x16384_S4x4x64x256,
    StableHlo.unary main_v1 main_v12 ((extractStridedSlice S4x16x3x192x256 ![0, 0, 0, 0, 0] · slices_S4x16x3x256x256_S4x16x3x192x256_0_0_0_0_0) : (⟨S4x16x3x256x256, .f32⟩ : BufTy).Contents (Elt F) → (⟨S4x16x3x192x256, .f32⟩ : BufTy).Contents (Elt F))]

/-- After the TensorCore call. -/
def postOps : List (HloOp τ sig (Elt F)) := [
    StableHlo.binary main_v13 main_v11 main_v14 ((fun a b => concatenate S4x4x256x256 2 [⟨S4x4x192x256, a⟩, ⟨S4x4x64x256, b⟩] concatenates_S4x4x192x256_S4x4x64x256_S4x4x256x256_d2) : (⟨S4x4x192x256, .i32⟩ : BufTy).Contents (Elt F) → (⟨S4x4x64x256, .i32⟩ : BufTy).Contents (Elt F) → (⟨S4x4x256x256, .i32⟩ : BufTy).Contents (Elt F)),
    StableHlo.unary main_v14 main_v15 ((transpose S4x256x256x4 [0, 2, 3, 1] · transposes_S4x4x256x256_S4x256x256x4_0_2_3_1) : (⟨S4x4x256x256, .i32⟩ : BufTy).Contents (Elt F) → (⟨S4x256x256x4, .i32⟩ : BufTy).Contents (Elt F))]

theorem main_eq (d : Dev nD) : main (F := F) d = (seq preOps >>= fun _ => (K (F := F)).run d 0 >>= fun _ => seq midOps >>= fun _ =>
    Prog.lift (.customCall (SparseCore.inner (Pipeline.entry 0)) ()) >>= fun _ => seq postOps >>= fun _ => pure ⟨⟩) := by
  unfold main preOps midOps postOps
  simp only [seq, bind_assoc, pure_bind]

theorem pre_sub : ∀ op ∈ preOps (F := F), op.bufs ⊆ ucRefs τ sig := by
  unfold preOps
  simp only [List.forall_mem_cons, List.not_mem_nil, false_imp_iff, implies_true, and_true]
  exact ⟨sub_ucRefs _ (StableHlo.binary_bufs_sub ..),
    sub_ucRefs _ (StableHlo.unary_bufs_sub ..),
    sub_ucRefs _ (StableHlo.unary_bufs_sub ..),
    sub_ucRefs _ (StableHlo.reshape_bufs_sub ..),
    sub_ucRefs _ (StableHlo.unary_bufs_sub ..),
    sub_ucRefs _ (StableHlo.unary_bufs_sub ..),
    sub_ucRefs _ (StableHlo.unary_bufs_sub ..),
    sub_ucRefs _ (StableHlo.binary_bufs_sub ..),
    sub_ucRefs _ (StableHlo.unary_bufs_sub ..),
    sub_ucRefs _ (StableHlo.reshape_bufs_sub ..)⟩

theorem mid_sub : ∀ op ∈ midOps (F := F), op.bufs ⊆ ucRefs τ sig := by
  unfold midOps
  simp only [List.forall_mem_cons, List.not_mem_nil, false_imp_iff, implies_true, and_true]
  exact ⟨sub_ucRefs _ (StableHlo.reshape_bufs_sub ..),
    sub_ucRefs _ (StableHlo.unary_bufs_sub ..)⟩

theorem post_sub : ∀ op ∈ postOps (F := F), op.bufs ⊆ ucRefs τ sig := by
  unfold postOps
  simp only [List.forall_mem_cons, List.not_mem_nil, false_imp_iff, implies_true, and_true]
  exact ⟨sub_ucRefs _ (StableHlo.binary_bufs_sub ..),
    sub_ucRefs _ (StableHlo.unary_bufs_sub ..)⟩

theorem pre_fresh : ∀ op ∈ preOps (F := F), op.fresh = ∅ := by
  unfold preOps
  simp only [List.forall_mem_cons, List.not_mem_nil, false_imp_iff, implies_true, and_true]
  exact ⟨rfl, rfl, rfl, rfl, rfl, rfl, rfl, rfl, rfl, rfl⟩

theorem mid_fresh : ∀ op ∈ midOps (F := F), op.fresh = ∅ := by
  unfold midOps
  simp only [List.forall_mem_cons, List.not_mem_nil, false_imp_iff, implies_true, and_true]
  exact ⟨rfl, rfl⟩

theorem post_fresh : ∀ op ∈ postOps (F := F), op.fresh = ∅ := by
  unfold postOps
  simp only [List.forall_mem_cons, List.not_mem_nil, false_imp_iff, implies_true, and_true]
  exact ⟨rfl, rfl⟩

/-! ## The contents of the buffers along the run -/

variable (m : (ℓ : Loc nD τ sig) → Buf (Elt F) ℓ) (ρ : Dev nD → PrngReg)

abbrev x' : DevRef τ sig := Proc.devRef .tc main_v9
abbrev o' : DevRef τ sig := Proc.devRef .tc main_v10

/-- When the SparseCore call starts. -/
def W1 (d : Dev nD) : Valuation τ sig (Elt F) := after preOps fun b => m (d, b)

/-- The SparseCore call's operand, and its result buffer as the call finds it. -/
def scX (d : Dev nD) : Buf (Elt F) (xLoc d) := W1 m d x'
def scO (d : Dev nD) : Buf (Elt F) (oLoc d) := W1 m d o'

/-- When the SparseCore call has ended. -/
def W2 (d : Dev nD) : Valuation τ sig (Elt F) := Function.update (W1 m d) o' (scRes (scX m) d)

/-- When the TensorCore call starts. -/
def W3 (d : Dev nD) : Valuation τ sig (Elt F) := after midOps (W2 m d)

/-- When the TensorCore call has ended. -/
def W4 (d : Dev nD) : Valuation τ sig (Elt F) := Pipeline.afterRegion (tcDat (W3 m d) d) (W3 m d)

/-- At the end. -/
def W5 (d : Dev nD) : Valuation τ sig (Elt F) := after postOps (W4 m d)

/-! ## The run -/

theorem x_mem : x' ∈ ucRefs τ sig := by decide
theorem o_mem : o' ∈ ucRefs τ sig := by decide

theorem held_pair (d : Dev nD) (W : Valuation τ sig (Elt F)) :
    (held (T d) (ucRefs τ sig) W : sProp 𝕄)
      = iprop(((xLoc d ↦{fullShare} W x') ∗ (oLoc d ↦{fullShare} W o')) ∗ held (T d) (ucRefs τ sig \ {x', o'}) W) := by
  rw [StableHlo.held_sub_split (T d) (T := {x', o'}) (Finset.insert_subset x_mem (Finset.singleton_subset_iff.mpr o_mem)) W]
  rw [show (held (T d) {x', o'} W : sProp 𝕄) = iprop((xLoc d ↦{fullShare} W x') ∗ (oLoc d ↦{fullShare} W o')) from by
    unfold held; rw [SparseCore.bigSep_insert' (by decide), bigSep_singleton]]

theorem held_W1 (d : Dev nD) :
    (held (T d) (ucRefs τ sig) (W1 m d) : sProp 𝕄)
      = iprop(((xLoc d ↦{fullShare} scX m d) ∗ (oLoc d ↦{fullShare} scO m d)) ∗ held (T d) (ucRefs τ sig \ {x', o'}) (W1 m d)) :=
  held_pair d (W1 m d)

theorem held_W2 (d : Dev nD) :
    (held (T d) (ucRefs τ sig) (W2 m d) : sProp 𝕄)
      = iprop(((xLoc d ↦{fullShare} scX m d) ∗ (oLoc d ↦{fullShare} scRes (scX m) d)) ∗ held (T d) (ucRefs τ sig \ {x', o'}) (W1 m d)) := by
  rw [held_pair]
  rw [show W2 m d x' = scX m d from Function.update_of_ne (by decide) _ _, show W2 m d o' = scRes (scX m) d from Function.update_self _ _ _,
    StableHlo.held_congr (T d) (V := W2 m d) (V' := W1 m d)]
  intro b hb
  exact Function.update_of_ne (fun h => (Finset.mem_sdiff.mp hb).2 (by rw [h]; simp)) _ _

abbrev FIN (d : Dev nD) : sProp 𝕄 := held (T d) (ucRefs τ sig) (W5 m d)

/-! ## The TensorCore call -/

/-- The call's wait history in the handshake's state, any one put back for another: once the SparseCore call has ended every cell's level is low enough. -/
theorem below_one (d : Dev nD) (W : Waits sig (HIx 1)) : (K (F := F)).WBelow (T d) W (8 * SparseCore.Cfg.Blocks.fst (Q := 1) (N := 1) 1) := by
  intro p _
  obtain ⟨g, ι⟩ := p
  match ι with
  | none => exact Nat.zero_le _
  | some q => exact ((K (F := F)).lev_some_le _ q).trans (by have := q.isLt; show 8 * q.val + 7 ≤ 8 * 1; omega)

theorem tcSt_open (d : Dev nD) :
    ((K (F := F)).tcSt EH d 1 : sProp 𝕄) ⊢ iprop((∃ W, owes (T d) 0 W) ∗ ((∃ W, owes (T d) 0 W) -∗ (K (F := F)).tcSt EH d 1)) := by
  unfold SparseCore.Cfg.tcSt
  rw [(K (F := F)).Otc_end d (le_refl 1)]
  iintro ⟨⟨%W, -, Ho⟩, Hrest⟩
  isplitl [Ho]; · iexists W; iexact Ho
  iintro ⟨%W', Ho⟩
  isplitl [Ho]
  · iexists W'
    isplitr
    · ipureintro; exact below_one d W'
    · iexact Ho
  iexact Hrest

/-- The call of the region, in the certificate's signature. -/
abbrev entryP : Prog (TpuEff nD τ sig (Elt F) (ΛP (F := F)) .tc) PUnit := .op (.customCall (Pipeline.entry 0) ()) .ret

theorem lift_entry : (Prog.lift (.customCall (SparseCore.inner (Pipeline.entry 0)) ()) :
    Prog (TpuEff nD τ sig (Elt F) (SparseCore.Sig (ΛP (F := F)) 1) .tc) PUnit) = SparseCore.liftProg (entryP (F := F)) := rfl

theorem arr_sub : Pipeline.arrRefs (τ := τ) (pcfgs (F := F) 0).spec ⊆ ucRefs τ sig :=
  Pipeline.arrRefs_sub_ucRefs _ fun w => match w with | 0 => rfl | 1 => rfl

theorem region_pre (d : Dev nD) :
    iprop(held (SparseCore.T d : Thread nD τ) (ucRefs τ sig) (W3 m d) ∗ ((∃ W, owes (SparseCore.T d) 0 W) ∗ emp ∗ emp))
      ⊢ ((region (W3 m)).pre d : sProp 𝕄) := by
  unfold region
  exact Pipeline.RegionSeg.ofHeldIn_pre (pcs := pcfgs (F := F)) (a := adm) (pdats := pdats (W3 m)) (ι := none) (defs₀ := defs₀ (F := F))
    (𝒱₀ := 𝒱₀) (L := (K (F := F)).L) (lv := (K (F := F)).lev) (p := 0) (D := fun _ => 0) (S := ucRefs τ sig) arr_sub
    (X := fun _ => iprop(emp)) (Y := fun _ => iprop(emp)) (R := fun _ => iprop(emp)) (W := W3 m) d

theorem region_post (d : Dev nD) :
    ((region (W3 m)).post d : sProp 𝕄)
      ⊢ iprop(held (SparseCore.T d : Thread nD τ) (ucRefs τ sig) (W4 m d) ∗ ((∃ W, owes (SparseCore.T d) 0 W) ∗ emp ∗ emp)) := by
  unfold region
  exact Pipeline.RegionSeg.ofHeldIn_post (pcs := pcfgs (F := F)) (a := adm) (pdats := pdats (W3 m)) (ι := none) (defs₀ := defs₀ (F := F))
    (𝒱₀ := 𝒱₀) (L := (K (F := F)).L) (lv := (K (F := F)).lev) (p := 0) (D := fun _ => 0) (S := ucRefs τ sig) arr_sub
    (X := fun _ => iprop(emp)) (Y := fun _ => iprop(emp)) (R := fun _ => iprop(emp)) (W := W3 m) d

theorem tc_region (d : Dev nD) (Φ : PUnit → sProp 𝕄) :
    iprop((((boundary (T d)) ∗ held (T d) (ucRefs τ sig) (W4 m d) ∗ ∃ W, owes (T d) 0 W) -∗ Φ ⟨⟩)
        ∗ (boundary (T d)) ∗ held (T d) (ucRefs τ sig) (W3 m d) ∗ (∃ W, owes (T d) 0 W) ∗ levAts (K (F := F)).L (K (F := F)).lev ∗ G d)
      ⊢ wp frame (wpE ((K (F := F)).defs (D (F := F))) 𝒱 (T d) none) Set.univ
          (Prog.lift (.customCall (SparseCore.inner (Pipeline.entry 0)) ())) Φ := by
  rw [lift_entry]
  refine BIBase.Entails.trans ?_ ((K (F := F)).wp_liftProg (D (F := F)) 𝒱 (T d) Set.univ none (entryP (F := F)) Φ)
  refine BIBase.Entails.trans ?_ (Pipeline.RegionSeg.wp pcfgs adm (pdats (W3 m)) none cellOf_inj EP defs₀ 𝒱₀ (K (F := F)).L (K (F := F)).lev (region (W3 m)) d none (fun u h => nomatch h) .ret Φ)
  iintro ⟨Hk, Hb, Hh, Ho, Hl, Hc, Ht⟩
  isplitl [Hk]
  · iintro ⟨Hb, Hp⟩
    rw [wp_ret]; imodintro
    ihave Hp := (region_post m d) $$ Hp
    icases Hp with ⟨Hh, Ho, -, -⟩
    iapply Hk
    isplitl [Hb]; · iexact Hb
    isplitl [Hh]; · iexact Hh
    iexact Ho
  isplitl [Hb]; · iexact Hb
  isplitl [Hh Ho]
  · iapply (region_pre m d)
    isplitl [Hh]; · iexact Hh
    isplitl [Ho]; · iexact Ho
    isplitr <;> iempintro
  isplitl [Hl]; · iexact Hl
  isplitl [Hc]; · iexact Hc
  iexact Ht

/-! ## The whole program -/

theorem unscoped_held (d : Dev nD) :
    (unscopedBufs d (fun b => m ((SparseCore.T d).loc b)) : sProp 𝕄) = held (SparseCore.T d : Thread nD τ) (ucRefs τ sig) (fun b => m (d, b)) :=
  Pipeline.unscopedBufs_held (Ix := HIx 1) (Name := ℕ) (U := UU) (Lvl := ℕ) d (fun b => m (d, b))

/-- A run of host operations over every buffer, its end contents named. -/
theorem wp_ops (d : Dev nD) (ops : List (HloOp τ sig (Elt F))) (hS : ∀ op ∈ ops, op.bufs ⊆ ucRefs τ sig) (hf : ∀ op ∈ ops, op.fresh = ∅)
    (V V' : Valuation τ sig (Elt F)) (hV : V' = after ops V)
    (k : PUnit → Prog (TpuEff nD τ sig (Elt F) (SparseCore.Sig (ΛP (F := F)) 1) .tc) PUnit) (Q : PUnit → sProp 𝕄) :
    iprop((boundary (SparseCore.T d)) ∗ held (SparseCore.T d : Thread nD τ) (ucRefs τ sig) V)
      ⊢ iprop((((boundary (SparseCore.T d)) ∗ held (SparseCore.T d : Thread nD τ) (ucRefs τ sig) V') -∗
          wp frame (wpE ((K (F := F)).defs (D (F := F))) 𝒱 (SparseCore.T d) none) Set.univ (k ⟨⟩) Q)
        -∗ wp frame (wpE ((K (F := F)).defs (D (F := F))) 𝒱 (SparseCore.T d) none) Set.univ (seq ops >>= k) Q) := by
  subst hV
  exact StableHlo.wp_seq 𝒱 none Set.univ d (ucRefs τ sig) k ops hS hf V

theorem hmain (κ : GSem nD τ sig → ℕ) (d : Dev nD) :
    iprop((K (F := F)).ctx EH (P (scX m) (scO m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held m d, main_eq]
  iintro ⟨#Hctx, Hst, ⟨Hb, Hheld, Hts, -⟩, HG⟩
  iapply (wp_ops d preOps pre_sub pre_fresh (fun b => m (d, b)) (W1 m d) rfl) $$ [Hb Hheld]
  · isplitl [Hb] <;> iassumption
  iintro ⟨Hb, Hheld⟩
  rw [wp_bind]
  ihave Hh := (Entails.of_eq (held_W1 m d)) $$ Hheld
  icases Hh with ⟨Hxo, Hrest⟩
  ihave Hs := (st_intro (scX m) (scO m) d) $$ Hxo
  icases Hs with ⟨Hx, Hs⟩
  iapply ((K (F := F)).wp_run (D (F := F)) 𝒱 (EH := EH) (P := P (scX m) (scO m)) κ d 0) $$ [Hst Hs Hx Hb Hrest Hts HG]
  isplitr; · iexact Hctx
  isplitl [Hst]; · iexact Hst
  isplitl [Hs]; · iexact Hs
  iintro ⟨Hst, Hdn⟩
  ihave Hxo := (dn_elim (scX m) (scO m) d) $$ [Hx Hdn]
  · isplitl [Hx] <;> iassumption
  ihave Hheld := (Entails.of_eq (held_W2 m d).symm) $$ [Hxo Hrest]
  · isplitl [Hxo] <;> iassumption
  iapply (wp_ops d midOps mid_sub mid_fresh (W2 m d) (W3 m d) rfl) $$ [Hb Hheld]
  · isplitl [Hb] <;> iassumption
  iintro ⟨Hb, Hheld⟩
  rw [wp_bind]
  ihave Hst := (show ((K (F := F)).tcSt EH d ((0 : Fin 1).val + 1) : sProp 𝕄) ⊢ _ from tcSt_open d) $$ Hst
  icases Hst with ⟨Ho, Hst⟩
  ihave Hl := ((K (F := F)).ctx_levAts κ) $$ Hctx
  iapply (tc_region m d)
  isplitl [Hst Hts]
  · iintro ⟨Hb, Hheld, Ho⟩
    ihave Hst := Hst $$ Ho
    iapply (wp_ops d postOps post_sub post_fresh (W4 m d) (W5 m d) rfl) $$ [Hb Hheld]
    · isplitl [Hb] <;> iassumption
    iintro ⟨Hb, Hheld⟩
    rw [wp_pure]; imodintro
    isplitl [Hst]; · iexact Hst
    isplitl [Hheld]; · iexact Hheld
    isplitl [Hb] <;> iassumption
  isplitl [Hb]; · iexact Hb
  isplitl [Hheld]; · iexact Hheld
  isplitl [Ho]; · iexact Ho
  isplitl [Hl]; · iexact Hl
  iexact HG

/-! ## What the final state holds -/

/-- One buffer of the final state. -/
theorem fin_at (d : Dev nD) (s' : Phys nD τ sig (Elt F)) (b : DevRef τ sig) (hb : b ∈ ucRefs τ sig) :
    iprop(FIN m d ∗ SI s') ⊢ (⌜s'.mem.mem (d, b) = W5 m d b⌝ : sProp 𝕄) := by
  iintro ⟨Hh, HSI⟩
  ihave Hb := (show (FIN m d : sProp 𝕄) ⊢ iprop(((d, b) : Loc nD τ sig) ↦{fullShare} W5 m d b) from bigSep_elim hb) $$ Hh
  ihave H := (SI_pointsTo_agree (st := s') (ℓ := ((d, b) : Loc nD τ sig)) (I := Finset.univ) (q := fullShare) (f := W5 m d b)) $$ [HSI Hb]
  · isplitl [HSI] <;> iassumption
  icases H with %h
  ipureintro; exact funext fun i => h i (Finset.mem_univ i)

abbrev a0' : DevRef τ sig := Proc.devRef .tc main_arg0
abbrev a1' : DevRef τ sig := Proc.devRef .tc main_arg1
abbrev r' : DevRef τ sig := Proc.devRef .tc main_v15

def fq (d : Dev nD) (s' : Phys nD τ sig (Elt F)) : Prop :=
  s'.mem.mem (d, r') = W5 m d r' ∧ s'.mem.mem (d, a0') = W5 m d a0' ∧ s'.mem.mem (d, a1') = W5 m d a1'

theorem hfin (d : Dev nD) (s' : Phys nD τ sig (Elt F)) : iprop(FIN m d ∗ SI s') ⊢ (⌜fq m d s'⌝ : sProp 𝕄) := by
  iintro H
  ihave H := (persistent_entails_right (fin_at m d s' r' (by decide))) $$ H
  icases H with ⟨%h1, H⟩
  ihave H := (persistent_entails_right (fin_at m d s' a0' (by decide))) $$ H
  icases H with ⟨%h2, H⟩
  ihave H := (fin_at m d s' a1' (by decide)) $$ H
  icases H with %h3
  ipureintro; exact ⟨h1, h2, h3⟩

theorem pre_keeps (V : Valuation τ sig (Elt F)) (r : Ref sig .tc)
    (h : r ∉ [main_v0, main_v1, main_v2, main_v3, main_v4, main_v5, main_v6, main_v7, main_v8, main_v9]) :
    after preOps V (Proc.devRef .tc r) = V (Proc.devRef .tc r) :=
  StableHlo.after_of_writes_sub preOps V (StableHlo.forall_writes_sub_of_map rfl) h

theorem mid_keeps (V : Valuation τ sig (Elt F)) (r : Ref sig .tc) (h : r ∉ [main_v11, main_v12]) :
    after midOps V (Proc.devRef .tc r) = V (Proc.devRef .tc r) :=
  StableHlo.after_of_writes_sub midOps V (StableHlo.forall_writes_sub_of_map rfl) h

theorem post_keeps (V : Valuation τ sig (Elt F)) (r : Ref sig .tc) (h : r ∉ [main_v14, main_v15]) :
    after postOps V (Proc.devRef .tc r) = V (Proc.devRef .tc r) :=
  StableHlo.after_of_writes_sub postOps V (StableHlo.forall_writes_sub_of_map rfl) h

/-- A buffer the TensorCore call does not write. -/
theorem region_keeps (d : Dev nD) (r : Ref sig .tc) (h : r ≠ main_v13) : W4 m d (Proc.devRef .tc r) = W3 m d (Proc.devRef .tc r) :=
  Pipeline.afterRegion_keeps (tcDat (W3 m d) d) (W3 m d) winFacts1.arr_inj (fun _ => rfl) r fun w hw => match w with
    | 0 => rfl
    | 1 => absurd hw.symm h

theorem sc_keeps (d : Dev nD) (r : Ref sig .tc) (h : r ≠ main_v10) : W2 m d (Proc.devRef .tc r) = W1 m d (Proc.devRef .tc r) :=
  Function.update_of_ne (fun e => h (Proc.devRef_injective _ e)) _ _

/-- No operation writes an argument. -/
theorem W5_keeps (d : Dev nD) (r : Ref sig .tc) (h : r = main_arg0 ∨ r = main_arg1) : W5 m d (Proc.devRef .tc r) = m (d, Proc.devRef .tc r) := by
  refine (post_keeps _ r ?_).trans ((region_keeps m d r ?_).trans ((mid_keeps _ r ?_).trans ((sc_keeps m d r ?_).trans (pre_keeps _ r ?_)))) <;>
    rcases h with rfl | rfl <;> decide

def QC : PUnit × MemSt nD τ sig (Elt F) → Prop := fun r =>
  (∀ c : Dev nD, r.2.mem (c, r') = W5 m c r' ∧ r.2.mem (c, a0') = m (c, a0') ∧ r.2.mem (c, a1') = m (c, a1')) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (scX m) (scO m)) (A := ∅) facts v₀
    (fun q hq => match q with | 0 => nomatch hq)
    (fun q _ => match q with | 0 => tileObl (scX m) (scO m) facts)
    (fun q _ => match q with | 0 => SparseCore.Cfg.VecSplit.of_plain (vecSplit (scX m) (scO m)))
    m ρ main G (FIN m) (u₀ (F := F)) (sep_elim_left.trans (hu₀ (scX m) (scO m))) (hmain m ρ) (fq m) (hfin m) (QC m)
    (fun _ h hz => ⟨fun c => ⟨(h c).1, (h c).2.1.trans (W5_keeps m c _ (.inl rfl)), (h c).2.2.trans (W5_keeps m c _ (.inr rfl))⟩, hz⟩)

end Cert.Proof.KernelIdeal

end
-- ==== Proof.Frames.lean ====
module

public import proofs.«01_k».proof.Proof.Kernel.Main
public import proofs.«01_k».proof.Proof.KernelIdeal.Main
public import proofs.«01_k».proof.Proof.Gen.ReferenceIdeal
public import proofs.«01_k».proof.Proof.Gen.ReferenceIdeal.Run

@[expose] public section

/-! The three frames: each is a run with its values dropped. -/

noncomputable section

namespace Cert.Proof

open Idealize.ShloMosaic Idealize.SL.Sem

theorem frame_p : Cert.quiescent_Kernel := fun m ρ _ =>
  (θ_run Cert.Kernel.defs _ _).mono (fun _ h => ⟨fun c => (h.1 c).2, h.2⟩) (Kernel.run_main (F := Bits) m ρ)

theorem frame_pi : Cert.quiescent_KernelIdeal := fun m ρ _ =>
  (θ_run Cert.KernelIdeal.defs _ _).mono (fun _ h => ⟨fun c => (h.1 c).2, h.2⟩) (KernelIdeal.run_main (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Spec.lean ====
module

public import Idealize.ShloMosaic.Lib.Tactic
public import Idealize.ShloMosaic.Lib.SortFacts

@[expose] public section

/-! One pixel's suppression, over any relation `near m j` ("candidates `m` and `j` are close") and in natural numbers.

The sixteen candidates are walked in order; one still kept suppresses every later one near it.  The kept ones are ranked
first, in their order, and then the suppressed ones, in theirs. -/

namespace Cert.Proof.Spec

open Idealize.ShloMosaic

variable (near : ℕ → ℕ → Bool)

/-- Whether candidate `j` is suppressed by one of the candidates before `m`. -/
def sup : ℕ → ℕ → Bool
  | 0, _ => false
  | m + 1, j => sup m j || (!sup m m && near m j)

/-- Whether candidate `m` is kept. -/
def keep (m : ℕ) : Bool := !sup near m m

/-- How many candidates before `m` are kept. -/
def cnt : ℕ → ℕ
  | 0 => 0
  | m + 1 => cnt m + (keep near m).toNat

/-- The place of candidate `m`. -/
def rank (m : ℕ) : ℕ := if keep near m then cnt near m else cnt near 16 + (m - cnt near m)

/-- The candidate at place `k` among the first `m`, as the kernels gather it. -/
def out (k : ℕ) : ℕ → BitVec 32
  | 0 => 0#32
  | m + 1 => out k m ||| if rank near m = k then BitVec.ofNat 32 m else 0#32

/-- The key a candidate is sorted by. -/
def key (m : ℕ) : ℕ := if keep near m then m else m + 16

theorem cnt_le (m : ℕ) : cnt near m ≤ m := by
  induction m with
  | zero => exact le_refl _
  | succ m ih => have := Bool.toNat_le (keep near m); simp only [cnt]; omega

theorem cnt_mono {m n : ℕ} (h : m ≤ n) : cnt near m ≤ cnt near n := by
  induction h with
  | refl => exact le_refl _
  | step _ ih => simp only [cnt]; omega

theorem cnt_lt {m n : ℕ} (hk : keep near m = true) (h : m < n) : cnt near m < cnt near n := by
  have := cnt_mono near (Nat.succ_le_of_lt h)
  simp only [Nat.succ_eq_add_one, cnt, hk, Bool.toNat_true] at this
  omega

/-- How many before `m` are suppressed. -/
theorem gone_mono {m n : ℕ} (h : m ≤ n) : m - cnt near m ≤ n - cnt near n := by
  induction h with
  | refl => exact le_refl _
  | @step n _ ih => have := Bool.toNat_le (keep near n); have := cnt_le near n; simp only [cnt]; omega

theorem gone_lt {m n : ℕ} (hk : keep near m = false) (h : m < n) : m - cnt near m < n - cnt near n := by
  have := gone_mono near (Nat.succ_le_of_lt h)
  simp only [Nat.succ_eq_add_one, cnt, hk, Bool.toNat_false] at this
  have := cnt_le near m
  omega

theorem rank_lt {m : ℕ} (h : m < 16) : rank near m < 16 := by
  have h16 := cnt_le near 16
  unfold rank
  cases hk : keep near m
  · have := gone_lt near hk h
    simp only [Bool.false_eq_true, if_false]
    omega
  · have := cnt_lt near hk h
    simp only [if_true]
    omega

/-- A lower key is a lower place. -/
theorem rank_lt_of_key {m n : ℕ} (hm : m < 16) (hn : n < 16) (h : key near m < key near n) : rank near m < rank near n := by
  unfold key at h
  unfold rank
  cases hk : keep near m <;> cases hk' : keep near n <;> simp only [hk, hk', Bool.false_eq_true, if_false, if_true] at h ⊢
  · have := gone_lt near hk (show m < n by omega)
    omega
  · omega
  · have := cnt_lt near hk hm
    omega
  · exact cnt_lt near hk h

theorem key_inj {m n : ℕ} (hm : m < 16) (hn : n < 16) (h : key near m = key near n) : m = n := by
  unfold key at h
  cases hk : keep near m <;> cases hk' : keep near n <;> simp only [hk, hk', Bool.false_eq_true, if_false, if_true] at h <;> omega

theorem key_lt_iff {m n : ℕ} (hm : m < 16) (hn : n < 16) : key near m < key near n ↔ rank near m < rank near n := by
  refine ⟨rank_lt_of_key near hm hn, fun h => ?_⟩
  rcases lt_trichotomy (key near m) (key near n) with h' | h' | h'
  · exact h'
  · rw [key_inj near hm hn h'] at h
    exact absurd h (lt_irrefl _)
  · exact absurd (rank_lt_of_key near hn hm h') (by omega)

theorem rank_inj {m n : ℕ} (hm : m < 16) (hn : n < 16) (h : rank near m = rank near n) : m = n := by
  rcases lt_trichotomy (key near m) (key near n) with h' | h' | h'
  · exact absurd (rank_lt_of_key near hm hn h') (by omega)
  · exact key_inj near hm hn h'
  · exact absurd (rank_lt_of_key near hn hm h') (by omega)

/-- The gathering finds the one candidate at place `k`. -/
theorem out_of_rank {p : ℕ} (hp : p < 16) : ∀ n ≤ 16, out near (rank near p) n = if p < n then BitVec.ofNat 32 p else 0#32
  | 0, _ => rfl
  | n + 1, hn => by
    rw [out, out_of_rank hp n (by omega)]
    by_cases h : n = p
    · subst h
      simp
    · rw [if_neg (fun e => h (rank_inj near (by omega) hp e)), BitVec.or_zero]
      by_cases h' : p < n
      · rw [if_pos h', if_pos (by omega)]
      · rw [if_neg h', if_neg (by omega)]

/-- The places as a permutation of the candidates. -/
noncomputable def place : Equiv.Perm (Fin 16) :=
  Equiv.ofBijective (fun m => ⟨rank near m.val, rank_lt near m.isLt⟩)
    (Finite.injective_iff_bijective.mp fun a b h => Fin.ext (rank_inj near a.isLt b.isLt (Fin.val_eq_of_eq h)))

theorem place_val (p : Fin 16) : (place near p).val = rank near p.val := by
  unfold place
  rw [Equiv.ofBijective_apply]

/-- The sort by an order that is the order of a permutation's places inverts the permutation. -/
theorem place_sorted (σ : Equiv.Perm (Fin 16)) (B : Fin 16 → Fin 16 → Bool) (hB : B = fun p q => decide (σ p < σ q)) (k : Fin 16) :
    σ (sortedFrom B k) = k := by
  have h := sortPositions_of_perm σ.symm
  rw [Equiv.symm_symm, ← hB] at h
  unfold sortedFrom
  rw [List.get_eq_getElem]
  simp only [h, List.getElem_ofFn, Fin.cast_mk, Equiv.apply_symm_apply, Fin.val_cast, Fin.eta]

/-- The stable sort by the keys puts at place `k` the candidate the gathering finds there. -/
theorem sorted_eq (B : Fin 16 → Fin 16 → Bool) (hB : ∀ p q, B p q = decide (key near p.val < key near q.val)) (k : Fin 16) :
    BitVec.ofNat 32 (sortedFrom B k).val = out near k.val 16 := by
  have hB' : B = fun p q => decide (place near p < place near q) := by
    funext p q
    rw [hB]
    refine decide_eq_decide.mpr ((key_lt_iff near p.isLt q.isLt).trans ?_)
    rw [Fin.lt_def, place_val, place_val]
  have hk : rank near (sortedFrom B k).val = k.val := by
    rw [← place_val, place_sorted _ B hB']
  have ho := out_of_rank near (sortedFrom B k).isLt 16 (le_refl _)
  rw [hk, if_pos (sortedFrom B k).isLt] at ho
  exact ho.symm

end Cert.Proof.Spec

end
-- ==== Proof.SpecNms.lean ====
module

public import proofs.«01_k».proof.Proof.Spec
public import proofs.«01_k».proof.Proof.Nms
public import proofs.«01_k».proof.Proof.NmsMask

@[expose] public section

/-! Both kernels' computations on one pixel are the suppression of `Spec`, each over its own closeness test. -/

noncomputable section

namespace Cert.Proof

open Idealize.ShloMosaic

variable {F : FTy → Type} [FloatOps F]

/-- Distance squared of candidates `m` and `j`. -/
def distSq (x y : ℕ → F .f32) (m j : ℕ) : F .f32 :=
  FloatOps.addf (FloatOps.mulf (FloatOps.subf (x j) (x m)) (FloatOps.subf (x j) (x m)))
    (FloatOps.mulf (FloatOps.subf (y j) (y m)) (FloatOps.subf (y j) (y m)))

/-- Close by the distance squared. -/
def nearSq (x y : ℕ → F .f32) (m j : ℕ) : Bool :=
  FloatOps.cmpf .ole (distSq x y m j) (FloatOps.ofBits .f32 0x40800000#32) == 1#1

/-- Close by the distance. -/
def nearDist (x y : ℕ → F .f32) (m j : ℕ) : Bool :=
  FloatOps.cmpf .ole (FloatOps.sqrt (distSq x y m j)) (FloatOps.ofBits .f32 0x40000000#32) == 1#1

theorem rank_word (near : ℕ → ℕ → Bool) (m : ℕ) :
    (if Spec.keep near m then BitVec.ofNat 32 (Spec.cnt near m)
      else BitVec.ofNat 32 (Spec.cnt near 16) + (BitVec.ofNat 32 m - BitVec.ofNat 32 (Spec.cnt near m)))
      = BitVec.ofNat 32 (Spec.rank near m) := by
  have h := Spec.cnt_le near m
  unfold Spec.rank
  cases Spec.keep near m
  · simp only [Bool.false_eq_true, if_false]
    have : BitVec.ofNat 32 m = BitVec.ofNat 32 (m - Spec.cnt near m) + BitVec.ofNat 32 (Spec.cnt near m) := by
      rw [← BitVec.ofNat_add, Nat.sub_add_cancel h]
    rw [this, BitVec.add_sub_cancel, ← BitVec.ofNat_add]
  · simp only [if_true]

theorem word_eq {a b : ℕ} (ha : a < 16) (hb : b < 16) : BitVec.ofNat 32 a = BitVec.ofNat 32 b ↔ a = b := by
  refine ⟨fun h => ?_, fun h => h ▸ rfl⟩
  have := congrArg BitVec.toNat h
  simp only [BitVec.toNat_ofNat] at this
  omega

/-- The gathering of one candidate more, on words. -/
theorem out_word (near : ℕ → ℕ → Bool) {k m : ℕ} (hk : k < 16) (hm : m < 16) :
    Spec.out near k m ||| Scalar.select (IntOp.cmpi .eq (BitVec.ofNat 32 (Spec.rank near m)) (BitVec.ofNat 32 k))
      (BitVec.ofNat 32 m) 0#32 = Spec.out near k (m + 1) := by
  rw [Spec.out]
  congr 1
  unfold Scalar.select IntOp.cmpi
  by_cases h : Spec.rank near m = k
  · simp [h]
  · have h' := mt (word_eq (Spec.rank_lt near hm) hk).mp h
    have hb : (BitVec.ofNat 32 (Spec.rank near m) == BitVec.ofNat 32 k) = false := beq_eq_false_iff_ne.mpr h'
    simp [h, hb]

namespace Nms

variable (x y : ℕ → F .f32) (i : S0.Idx)

theorem hit_eq (km : IVec S0 32) (m j : ℕ) :
    hitV (s := S0) (fun m _ => x m) (fun m _ => y m) km m j i = if nearSq x y m j then km i else 0#32 := by
  unfold hitV nearSq distSq select Scalar.select
  simp only [cmpf, broadcast, beq_iff_eq]
  rfl

theorem sup_eq (m : ℕ) : ∀ j, supV (s := S0) (fun m _ => x m) (fun m _ => y m) m j i
    = if Spec.sup (nearSq x y) (m + 1) j then 1#32 else 0#32 := by
  induction m with
  | zero => intro j; rw [supV, hit_eq]; simp [Spec.sup, broadcast]
  | succ m ih =>
    intro j
    rw [supV, Spec.sup]
    simp only [ori, hit_eq, subi, broadcast, ih]
    cases Spec.sup (nearSq x y) (m + 1) j <;> cases Spec.sup (nearSq x y) (m + 1) (m + 1) <;> cases nearSq x y (m + 1) j <;> rfl

theorem keep_eq (m : ℕ) : keepV (s := S0) (fun m _ => x m) (fun m _ => y m) m i
    = if Spec.keep (nearSq x y) m then 1#32 else 0#32 := by
  cases m with
  | zero => rfl
  | succ m =>
    rw [keepV, Spec.keep]
    simp only [subi, broadcast, sup_eq]
    cases Spec.sup (nearSq x y) (m + 1) (m + 1) <;> rfl

theorem cnt_eq (m : ℕ) : cntV (s := S0) (fun m _ => x m) (fun m _ => y m) m i = BitVec.ofNat 32 (Spec.cnt (nearSq x y) m) := by
  induction m with
  | zero => rfl
  | succ m ih =>
    rw [cntV, Spec.cnt, BitVec.ofNat_add, ← ih]
    simp only [addi, keep_eq]
    cases Spec.keep (nearSq x y) m <;> rfl

theorem rank_eq (m : ℕ) : rankV (s := S0) (fun m _ => x m) (fun m _ => y m) m (BitVec.ofNat 32 m) i
    = BitVec.ofNat 32 (Spec.rank (nearSq x y) m) := by
  rw [rankV, ← rank_word]
  simp only [select, Scalar.select, cmpi, addi, subi, broadcast, cnt_eq, keep_eq]
  cases Spec.keep (nearSq x y) m <;> rfl

theorem out_eq {k : ℕ} (hk : k < 16) : ∀ m ≤ 16, outV (s := S0) (fun m _ => x m) (fun m _ => y m) k m i
    = Spec.out (nearSq x y) k m
  | 0, _ => rfl
  | m + 1, h => by
    rw [outV, ← out_word _ hk (by omega)]
    simp only [ori, select, cmpi, broadcast, out_eq hk m (by omega), rank_eq]
    rfl

theorem pix_eq {k : ℕ} (hk : k < 16) : pix x y k = Spec.out (nearSq x y) k 16 := out_eq x y _ hk 16 (le_refl _)

end Nms

namespace NmsMask

/-- The shape of one number. -/
abbrev S0 : Shape := ⟨0, ![]⟩

variable (x y : ℕ → F .f32) (i : S0.Idx)

theorem near_eq (m j : ℕ) :
    nearV (s := S0) (fun m _ => x m) (fun m _ => y m) m j i = if nearDist x y m j then 1#1 else 0#1 := by
  have h : nearDist x y m j = (nearV (s := S0) (fun m _ => x m) (fun m _ => y m) m j i == 1#1) := rfl
  rw [h]
  generalize nearV (s := S0) (fun m _ => x m) (fun m _ => y m) m j i = b
  revert b
  decide

theorem sup_eq (m : ℕ) : ∀ j, supV (s := S0) (fun m _ => x m) (fun m _ => y m) m j i
    = if Spec.sup (nearDist x y) (m + 1) j then 1#1 else 0#1 := by
  induction m with
  | zero => intro j; rw [supV]; simp only [andi, broadcast, near_eq, Spec.sup, Bool.not_false, Bool.true_and, Bool.false_or, IntOp.andi]; split <;> rfl
  | succ m ih =>
    intro j
    rw [supV, Spec.sup]
    simp only [ori, andi, xori, constantI, near_eq, broadcast, ih]
    cases Spec.sup (nearDist x y) (m + 1) j <;> cases Spec.sup (nearDist x y) (m + 1) (m + 1) <;> cases nearDist x y (m + 1) j <;> rfl

theorem keep_eq (m : ℕ) : keepV (s := S0) (fun m _ => x m) (fun m _ => y m) m i
    = if Spec.keep (nearDist x y) m then 1#1 else 0#1 := by
  cases m with
  | zero => rfl
  | succ m =>
    rw [keepV, Spec.keep]
    simp only [xori, constantI, broadcast, sup_eq]
    cases Spec.sup (nearDist x y) (m + 1) (m + 1) <;> rfl

theorem cnt_eq (m : ℕ) : cntV (s := S0) (fun m _ => x m) (fun m _ => y m) m i = BitVec.ofNat 32 (Spec.cnt (nearDist x y) m) := by
  induction m with
  | zero => rfl
  | succ m ih =>
    rw [cntV, Spec.cnt, BitVec.ofNat_add, ← ih]
    simp only [addi, extui, keep_eq]
    cases Spec.keep (nearDist x y) m <;> rfl

theorem rank_eq (m : ℕ) : rankV (s := S0) (fun m _ => x m) (fun m _ => y m) m (BitVec.ofNat 32 m) i
    = BitVec.ofNat 32 (Spec.rank (nearDist x y) m) := by
  rw [rankV, ← rank_word]
  simp only [select, Scalar.select, cmpi, addi, subi, broadcast, cnt_eq, keep_eq]
  cases Spec.keep (nearDist x y) m <;> rfl

theorem out_eq {k : ℕ} (hk : k < 16) : ∀ m ≤ 16, outV (s := S0) (fun m _ => x m) (fun m _ => y m) k m i
    = Spec.out (nearDist x y) k m
  | 0, _ => rfl
  | m + 1, h => by
    rw [outV, ← out_word _ hk (by omega)]
    simp only [ori, select, cmpi, broadcast, out_eq hk m (by omega), rank_eq]
    rfl

theorem pix_eq {k : ℕ} (hk : k < 16) : pix x y k = Spec.out (nearDist x y) k 16 := out_eq x y _ hk 16 (le_refl _)

end NmsMask

end Cert.Proof

end
-- ==== Proof.Near.lean ====
module

public import proofs.«01_k».proof.Proof.SpecNms
public import Idealize.ShloMosaic.PureOps.Ideal

@[expose] public section

/-! On the extended reals the two closeness tests agree: a distance is at most two exactly when its square is at most four. -/

noncomputable section

namespace Cert.Proof

open Idealize.ShloMosaic

theorem four_word : Ideal.ofBits .f32 0x40800000#32 = ((4 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem sq_nonneg' (a : EReal) : 0 ≤ a * a := by
  rcases le_total 0 a with h | h
  · exact mul_nonneg h h
  · have h' : 0 ≤ -a := EReal.neg_nonneg.mpr h
    have := mul_nonneg h' h'
    rwa [neg_mul_neg] at this

theorem sqrt_le_two {d : EReal} (h : 0 ≤ d) : Ideal.sqrt d ≤ ((2 : ℝ) : EReal) ↔ d ≤ ((4 : ℝ) : EReal) := by
  induction d with
  | bot => exact absurd h (by simp)
  | top => exact ⟨fun h => absurd (top_le_iff.mp h) (EReal.coe_ne_top _), fun h => absurd (top_le_iff.mp h) (EReal.coe_ne_top _)⟩
  | coe r =>
    have hr : 0 ≤ r := EReal.coe_nonneg.mp h
    have hs : Ideal.sqrt (r : EReal) = ((Real.sqrt r : ℝ) : EReal) := by
      show (if r < 0 then ⊥ else (Real.sqrt r : EReal)) = _
      rw [if_neg (not_lt.mpr hr)]
    rw [hs, EReal.coe_le_coe_iff, EReal.coe_le_coe_iff, Real.sqrt_le_left (by norm_num)]
    norm_num

theorem nearSq_eq_nearDist (x y : ℕ → Ideal .f32) : nearSq x y = nearDist x y := by
  funext m j
  have hd : (0 : EReal) ≤ distSq x y m j := add_nonneg (sq_nonneg' _) (sq_nonneg' _)
  have h := sqrt_le_two hd
  unfold nearSq nearDist
  have e4 : (FloatOps.ofBits .f32 0x40800000#32 : Ideal .f32) = ((4 : ℝ) : EReal) := four_word
  have e2 : (FloatOps.ofBits .f32 0x40000000#32 : Ideal .f32) = ((2 : ℝ) : EReal) := two_word
  rw [e4, e2]
  show (BitVec.ofBool (decide _) == 1#1) = (BitVec.ofBool (decide (Ideal.sqrt _ ≤ _)) == 1#1)
  rw [decide_eq_decide.mpr h]

end Cert.Proof

end
-- ==== Proof.Coord.lean ====
module

public import Idealize.ShloMosaic.PureOps.Ideal
public import Idealize.ShloMosaic.Lib.Pointwise

@[expose] public section

/-! A candidate's projected coordinates on the extended reals: what both programs compute before the suppression. -/

noncomputable section

namespace Cert.Proof.Coord

open Idealize.ShloMosaic

/-- Row `a` of the projection of candidate `m` at pixel `(n, h, w)`. -/
def proj (X : FVec Ideal ⟨5, ![4, 16, 3, 256, 256]⟩ .f32) (P : FVec Ideal ⟨3, ![4, 3, 3]⟩ .f32) (n : Fin 4) (h w : Fin 256)
    (m : Fin 16) (a : Fin 3) : EReal :=
  ∑ k : Fin 3, P (ix3 n a k) * X (ix5 n m k h w)

/-- Projected coordinate `a` of candidate `m` at pixel `(n, h, w)`. -/
def coord (X : FVec Ideal ⟨5, ![4, 16, 3, 256, 256]⟩ .f32) (P : FVec Ideal ⟨3, ![4, 3, 3]⟩ .f32) (n : Fin 4) (h w : Fin 256)
    (m : Fin 16) (a : Fin 2) : EReal :=
  Ideal.div (proj X P n h w m (a.castLE (by decide))) (proj X P n h w m 2)

/-- The position of a pixel in the flattened image. -/
def flat (h w : Fin 256) : Fin 65536 := ⟨h.val * 256 + w.val, by have := h.isLt; have := w.isLt; omega⟩

end Cert.Proof.Coord

end
-- ==== Proof.KernelIdeal.Value.lean ====
module

public import proofs.«01_k».proof.Proof.KernelIdeal.Main
public import proofs.«01_k».proof.Proof.SpecNms
public import proofs.«01_k».proof.Proof.Near
public import proofs.«01_k».proof.Proof.Coord
public import Idealize.ShloMosaic.Lib.Pointwise
public import Idealize.ShloMosaic.Lib.StableHlo.Run
public import Idealize.ShloMosaic.Lib.Pipeline.ValueKit.Geometry

@[expose] public section

/-! The kernel's result at a pixel, on the extended reals. -/

noncomputable section

namespace Cert.Proof.KernelIdeal

open Cert.KernelIdeal Cert.KernelIdeal.Gen Cert.Proof.Coord Idealize.ShloMosaic
open Idealize.ShloMosaic.StableHlo (after)

/-! ## The host operations at an index -/

theorem dot_apply (X : FVec Ideal S4x16x3x256x256 .f32) (P : FVec Ideal S4x3x3 .f32) (n : Fin 4) (m : Fin 16) (h w : Fin 256)
    (a : Fin 3) :
    Host.dotGeneral dot_S4x16x3x256x256_S4x3x3_S4x16x256x256x3_2_2_134_1_0_0 none X P (ix5 n m h w a)
      = ∑ k : Fin 3, X (ix5 n m k h w) * P (ix3 n a k) := by
  pointwise

/-- The projected rows, planes before pixels. -/
def homog (X : FVec Ideal S4x16x3x256x256 .f32) (P : FVec Ideal S4x3x3 .f32) : FVec Ideal S4x16x3x256x256 .f32 :=
  transpose S4x16x3x256x256 [0, 1, 4, 2, 3]
    (Host.dotGeneral dot_S4x16x3x256x256_S4x3x3_S4x16x256x256x3_2_2_134_1_0_0 none X P : FVec Ideal S4x16x256x256x3 .f32)
    transposes_S4x16x256x256x3_S4x16x3x256x256_0_1_4_2_3

theorem homog_apply (X : FVec Ideal S4x16x3x256x256 .f32) (P : FVec Ideal S4x3x3 .f32) (n : Fin 4) (m : Fin 16) (h w : Fin 256)
    (a : Fin 3) : homog X P (ix5 n m a h w) = proj X P n h w m a := by
  have e : ∀ v : FVec Ideal S4x16x256x256x3 .f32, transpose S4x16x3x256x256 [0, 1, 4, 2, 3] v
      transposes_S4x16x256x256x3_S4x16x3x256x256_0_1_4_2_3 (ix5 n m a h w) = v (ix5 n m h w a) := by
    intro v; pointwise
  unfold homog proj
  rw [e, dot_apply]
  exact Finset.sum_congr rfl fun k _ => mul_comm (X (ix5 n m k h w) : EReal) (P (ix3 n a k))

/-- The last rows' coordinates, flattened for the SparseCore call. -/
def tail (H : FVec Ideal S4x16x3x256x256 .f32) : FVec Ideal S4x16x3x16384 .f32 :=
  shapeCast S4x16x3x16384 (extractStridedSlice S4x16x3x64x256 ![0, 0, 0, 192, 0] H slices_S4x16x3x256x256_S4x16x3x64x256_0_0_0_192_0)
    shapeCasts_S4x16x3x64x256_S4x16x3x16384

/-- The position of a pixel in the flattened last rows. -/
def flatTail (h : Fin 64) (w : Fin 256) : Fin 16384 := ⟨h.val * 256 + w.val, by have := h.isLt; have := w.isLt; omega⟩

theorem tail_apply (H : FVec Ideal S4x16x3x256x256 .f32) (n : Fin 4) (m : Fin 16) (a : Fin 3) (h : Fin 64) (w : Fin 256) :
    tail H (ix4 n m a (flatTail h w)) = H (ix5 n m a (h.natAdd 192) w) := by
  have e : ∀ v : FVec Ideal S4x16x3x64x256 .f32, shapeCast S4x16x3x16384 v shapeCasts_S4x16x3x64x256_S4x16x3x16384
      (ix4 n m a (flatTail h w)) = v (ix5 n m a h w) := by
    intro v
    refine shapeCast_apply _ _ _ _ ?_
    rw [Shape.rowMajor_val_four, Shape.rowMajor_val_five]
    show (((n.val * 16 + m.val) * 3 + a.val) * 64 + h.val) * 256 + w.val = ((n.val * 16 + m.val) * 3 + a.val) * 16384 + (h.val * 256 + w.val)
    omega
  unfold tail
  rw [e]
  refine congrArg H ?_
  funext b
  match b with
  | ⟨0, _⟩ => exact Fin.ext (Nat.zero_add _)
  | ⟨1, _⟩ => exact Fin.ext (Nat.zero_add _)
  | ⟨2, _⟩ => exact Fin.ext (Nat.zero_add _)
  | ⟨3, _⟩ => rfl
  | ⟨4, _⟩ => exact Fin.ext (Nat.zero_add _)

/-- The SparseCore call's operand: the sixteen first coordinates, then the sixteen second ones. -/
def operand (T : FVec Ideal S4x16x3x16384 .f32) : FVec Ideal S4x32x16384 .f32 :=
  shapeCast S4x32x16384
    (transpose S4x2x16x16384 [0, 2, 1, 3]
      (Host.divf (extractStridedSlice S4x16x2x16384 ![0, 0, 0, 0] T slices_S4x16x3x16384_S4x16x2x16384_0_0_0_0)
        (broadcastInDim S4x16x2x16384 ![0, 1, 2, 3] bcast_S4x16x1x16384_S4x16x2x16384_0_1_2_3
          (extractStridedSlice S4x16x1x16384 ![0, 0, 2, 0] T slices_S4x16x3x16384_S4x16x1x16384_0_0_2_0)) : FVec Ideal S4x16x2x16384 .f32)
      transposes_S4x16x2x16384_S4x2x16x16384_0_2_1_3)
    shapeCasts_S4x2x16x16384_S4x32x16384

/-- The row of candidate `m`'s coordinate `a` in the SparseCore call's operand. -/
def row (a : Fin 2) (m : Fin 16) : Fin 32 := ⟨a.val * 16 + m.val, by have := a.isLt; have := m.isLt; omega⟩

theorem operand_apply (T : FVec Ideal S4x16x3x16384 .f32) (n : Fin 4) (a : Fin 2) (m : Fin 16) (q : Fin 16384) :
    operand T (ix3 n (row a m) q) = Ideal.div (T (ix4 n m (a.castLE (by decide) : Fin 3) q)) (T (ix4 n m (2 : Fin 3) q)) := by
  have e : ∀ v : FVec Ideal S4x2x16x16384 .f32, shapeCast S4x32x16384 v shapeCasts_S4x2x16x16384_S4x32x16384 (ix3 n (row a m) q)
      = v (ix4 n a m q) := by
    intro v
    refine shapeCast_apply _ _ _ _ ?_
    rw [Shape.rowMajor_val_four, Shape.rowMajor_val_three]
    show ((n.val * 2 + a.val) * 16 + m.val) * 16384 + q.val = (n.val * 32 + (a.val * 16 + m.val)) * 16384 + q.val
    omega
  unfold operand
  rw [e]
  pointwise
  rfl

theorem headRows_apply (H : FVec Ideal S4x16x3x256x256 .f32) (n : Fin 4) (m : Fin 16) (a : Fin 3) (h : Fin 192) (w : Fin 256) :
    extractStridedSlice S4x16x3x192x256 ![0, 0, 0, 0, 0] H slices_S4x16x3x256x256_S4x16x3x192x256_0_0_0_0_0 (ix5 n m a h w)
      = H (ix5 n m a (h.castLE (by decide)) w) := by
  refine congrArg H ?_
  funext b
  match b with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)
  | ⟨4, _⟩ => exact Fin.ext (Nat.zero_add _)

/-- The two calls' results put together. -/
def joined (A : IVec S4x4x192x256 32) (B : IVec S4x4x16384 32) : IVec S4x256x256x4 32 :=
  transpose S4x256x256x4 [0, 2, 3, 1]
    (concatenate S4x4x256x256 2 [⟨S4x4x192x256, A⟩, ⟨S4x4x64x256, shapeCast S4x4x64x256 B shapeCasts_S4x4x16384_S4x4x64x256⟩]
      concatenates_S4x4x192x256_S4x4x64x256_S4x4x256x256_d2)
    transposes_S4x4x256x256_S4x256x256x4_0_2_3_1

theorem joined_plane (v : IVec S4x4x256x256 32) (n : Fin 4) (k : Fin 4) (h w : Fin 256) :
    transpose S4x256x256x4 [0, 2, 3, 1] v transposes_S4x4x256x256_S4x256x256x4_0_2_3_1 (ix4 n h w k) = v (ix4 n k h w) := by
  pointwise

theorem joined_head (A : IVec S4x4x192x256 32) (B : IVec S4x4x16384 32) (n : Fin 4) (k : Fin 4) (h : Fin 192) (w : Fin 256) :
    joined A B (ix4 n (h.castLE (by decide)) w k) = A (ix4 n k h w) := by
  unfold joined
  rw [joined_plane]
  exact concatenate_pair_apply_left (t := S4x4x256x256) (s₁ := S4x4x192x256) (s₂ := S4x4x64x256) 2 _ _ _ _ rfl (ix4 n k h w) fun b =>
    match b with
    | ⟨0, _⟩ => rfl
    | ⟨1, _⟩ => rfl
    | ⟨2, _⟩ => rfl
    | ⟨3, _⟩ => rfl

theorem joined_tail (A : IVec S4x4x192x256 32) (B : IVec S4x4x16384 32) (n : Fin 4) (k : Fin 4) (h : Fin 64) (w : Fin 256) :
    joined A B (ix4 n (h.natAdd 192) w k) = B (ix3 n k (flatTail h w)) := by
  have e : shapeCast S4x4x64x256 B shapeCasts_S4x4x16384_S4x4x64x256 (ix4 n k h w) = B (ix3 n k (flatTail h w)) := by
    refine shapeCast_apply _ _ _ _ ?_
    rw [Shape.rowMajor_val_four, Shape.rowMajor_val_three]
    show (n.val * 4 + k.val) * 16384 + (h.val * 256 + w.val) = ((n.val * 4 + k.val) * 64 + h.val) * 256 + w.val
    omega
  unfold joined
  rw [joined_plane]
  refine Eq.trans ?_ e
  exact concatenate_pair_apply_right (t := S4x4x256x256) (s₁ := S4x4x192x256) (s₂ := S4x4x64x256) 2 _ _ _ _ rfl rfl (ix4 n k h w) (fun b hb =>
    match b, hb with
    | ⟨0, _⟩, _ => rfl
    | ⟨1, _⟩, _ => rfl
    | ⟨3, _⟩, _ => rfl) (Nat.add_comm _ _)

/-! ## The buffers along the run -/

variable (m : (ℓ : Loc nD τ sig) → Buf (Elt Ideal) ℓ) (d : Dev nD)

theorem W1_v1 : W1 m d (Proc.devRef .tc main_v1) = homog (m (d, a0')) (m (d, a1')) := by
  unfold W1 preOps homog
  after_results_simp

theorem W1_v9 : scX m d = operand (tail (homog (m (d, a0')) (m (d, a1')))) := by
  unfold scX W1 preOps operand tail homog
  after_results_simp
  rfl

theorem W3_v11 : W3 m d (Proc.devRef .tc main_v11)
    = shapeCast S4x4x64x256 (scRes (scX m) d : IVec S4x4x16384 32) shapeCasts_S4x4x16384_S4x4x64x256 := by
  have e : W2 m d (Proc.devRef .tc main_v10) = scRes (scX m) d := by
    unfold W2; exact Function.update_self _ _ _
  rw [← e]
  unfold W3 midOps
  after_results_simp
  rfl

theorem W3_v12 : W3 m d (Proc.devRef .tc main_v12)
    = extractStridedSlice S4x16x3x192x256 ![0, 0, 0, 0, 0] (homog (m (d, a0')) (m (d, a1'))) slices_S4x16x3x256x256_S4x16x3x192x256_0_0_0_0_0 := by
  have e : W2 m d (Proc.devRef .tc main_v1) = homog (m (d, a0')) (m (d, a1')) :=
    (sc_keeps m d _ (by decide)).trans (W1_v1 m d)
  rw [← e]
  unfold W3 midOps
  after_results_simp

theorem W5_v15 : W5 m d r' = joined (W4 m d (Proc.devRef .tc main_v13)) (scRes (scX m) d) := by
  have e : W4 m d (Proc.devRef .tc main_v11) = _ := (region_keeps m d _ (by decide)).trans (W3_v11 m d)
  unfold joined
  rw [← e]
  unfold W5 postOps
  after_results_simp

/-- What the TensorCore call leaves, from its operand. -/
def tcAll (H : S4x16x3x192x256.Idx → Ideal .f32) (z : S4x4x192x256.Idx) : BitVec 32 :=
  NmsMask.pix (fun m => FloatOps.divf (H (ix5 (z 0) (cand m) 0 (z 2) (z 3))) (H (ix5 (z 0) (cand m) 2 (z 2) (z 3))))
    (fun m => FloatOps.divf (H (ix5 (z 0) (cand m) 1 (z 2) (z 3))) (H (ix5 (z 0) (cand m) 2 (z 2) (z 3)))) (z 1).val

theorem index_in (t : Fin cfg1.N) : win1_0.index t = ![(grid1.coords t 0).val, 0, 0, (grid1.coords t 1).val, 0] :=
  (by decide +kernel : ∀ t : Fin grid1.N, win1_0.index t = ![(grid1.coords t 0).val, 0, 0, (grid1.coords t 1).val, 0]) t

theorem index_out (t : Fin cfg1.N) : win1_1.index t = ![(grid1.coords t 0).val, 0, (grid1.coords t 1).val, 0] :=
  (by decide +kernel : ∀ t : Fin grid1.N, win1_1.index t = ![(grid1.coords t 0).val, 0, (grid1.coords t 1).val, 0]) t

/-- A block of the operand at the place of a block of the result. -/
theorem inBlk_apply (W : Valuation τ sig (Elt Ideal)) (t : Fin cfg1.N) (y : S1x4x32x256.Idx) (c : Fin 16) (a : Fin 3) :
    inBlk W t (ix5 0 c a (y 2) (y 3))
      = (W (Proc.devRef .tc main_v12) : S4x16x3x192x256.Idx → Ideal .f32)
          (ix5 ((win1_1.blk t).view.emb y 0) c a ((win1_1.blk t).view.emb y 2) ((win1_1.blk t).view.emb y 3)) := by
  have h0 : (y 0).val < 1 := (y 0).isLt
  unfold inBlk
  blk_simp
  refine congrArg (W (Proc.devRef .tc main_v12)) ?_
  funext b
  apply Fin.ext
  match b with
  | ⟨0, _⟩ => blk_simp [index_in, index_out]; show (grid1.coords t 0).val + 0 = _; rfl
  | ⟨1, _⟩ => blk_simp [index_in, index_out]
  | ⟨2, _⟩ => blk_simp [index_in, index_out]
  | ⟨3, _⟩ => blk_simp [index_in, index_out]
  | ⟨4, _⟩ => blk_simp [index_in, index_out]

theorem tcBlk_eq_tcAll (B : S1x16x3x32x256.Idx → Ideal .f32) (H : S4x16x3x192x256.Idx → Ideal .f32) (y : S1x4x32x256.Idx)
    (z : S4x4x192x256.Idx) (hB : ∀ c a, B (ix5 0 c a (y 2) (y 3)) = H (ix5 (z 0) c a (z 2) (z 3))) (hk : (z 1).val = (y 1).val) :
    tcBlk B y = tcAll H z := by
  unfold tcBlk tcAll
  simp only [hB, hk]

theorem W4_v13 : W4 m d (Proc.devRef .tc main_v13) = tcAll (W3 m d (Proc.devRef .tc main_v12)) := by
  unfold W4
  refine (Pipeline.afterRegion_arr (tcDat (W3 m d) d) (W3 m d) winFacts1.arr_inj 1).trans ?_
  refine (tcDat (W3 m d) d).arrAt_eq_of_covers 1 _ (by decide +kernel) fun t hf y => ?_
  blk_simp
  have hk : ((win1_1.blk t).view.emb y 1).val = (y 1).val := by
    blk_simp [index_out]
  exact tcBlk_eq_tcAll _ _ y _ (inBlk_apply _ t y) hk

/-! ## The result at a pixel -/

/-- What the suppression gives at a pixel, from the two arguments. -/
def spec (X : FVec Ideal S4x16x3x256x256 .f32) (P : FVec Ideal S4x3x3 .f32) (n : Fin 4) (h w : Fin 256) (k : Fin 4) : BitVec 32 :=
  Spec.out (nearDist (F := Ideal) (fun c => coord X P n h w (cand c) 0) (fun c => coord X P n h w (cand c) 1)) k.val 16

theorem tcAll_apply (X : FVec Ideal S4x16x3x256x256 .f32) (P : FVec Ideal S4x3x3 .f32) (H : FVec Ideal S4x16x3x192x256 .f32)
    (n : Fin 4) (k : Fin 4) (h : Fin 192) (h' w : Fin 256) (hc : ∀ (c : Fin 16) (a : Fin 3), H (ix5 n c a h w) = proj X P n h' w c a) :
    tcAll H (ix4 n k h w) = spec X P n h' w k := by
  have hk : k.val < 16 := by have := k.isLt; omega
  have e : ∀ a : Fin 2, (fun c => FloatOps.divf (H (ix5 n (cand c) (a.castLE (by decide) : Fin 3) h w)) (H (ix5 n (cand c) 2 h w)))
      = fun c => coord X P n h' w (cand c) a := by
    intro a; funext c
    rw [hc, hc]
    rfl
  exact (congrArg₂ (fun x y => NmsMask.pix x y k.val) (e 0) (e 1)).trans (NmsMask.pix_eq _ _ hk)

theorem head_apply (X : FVec Ideal S4x16x3x256x256 .f32) (P : FVec Ideal S4x3x3 .f32) (n : Fin 4) (k : Fin 4) (h : Fin 192) (w : Fin 256) :
    tcAll (extractStridedSlice S4x16x3x192x256 ![0, 0, 0, 0, 0] (homog X P) slices_S4x16x3x256x256_S4x16x3x192x256_0_0_0_0_0) (ix4 n k h w)
      = spec X P n (h.castLE (by decide)) w k :=
  tcAll_apply X P _ n k h _ w fun c a => (headRows_apply _ n c a h w).trans (homog_apply X P n c _ w a)

theorem tail_pix (X : FVec Ideal S4x16x3x256x256 .f32) (P : FVec Ideal S4x3x3 .f32) (n : Fin 4) (k : Fin 4) (h : Fin 64) (w : Fin 256) :
    scOut (operand (tail (homog X P))) (ix3 n k (flatTail h w)) = spec X P n (h.natAdd 192) w k := by
  have hc : ∀ (c : Fin 16) (a : Fin 2), operand (tail (homog X P)) (ix3 n (row a c) (flatTail h w)) = coord X P n (h.natAdd 192) w c a := by
    intro c a
    rw [operand_apply, tail_apply, tail_apply, homog_apply, homog_apply]
    rfl
  have hk : k.val < 16 := by have := k.isLt; omega
  unfold spec
  rw [← nearSq_eq_nearDist]
  refine Eq.trans ?_ (Nms.pix_eq _ _ hk)
  have h0 : ∀ c : Fin 16, (c.castLE (by decide) : Fin 32) = row 0 c := fun c => Fin.ext (by show c.val = 0 * 16 + c.val; omega)
  have h1 : ∀ c : Fin 16, (c.natAdd 16 : Fin 32) = row 1 c := fun c => Fin.ext (by show 16 + c.val = 1 * 16 + c.val; omega)
  generalize operand (tail (homog X P)) = T at hc ⊢
  show Nms.pix (fun c => T (ix3 n ((cand c).castLE (by decide)) (flatTail h w))) (fun c => T (ix3 n ((cand c).natAdd 16) (flatTail h w))) k.val = _
  simp only [h0, h1, hc]

theorem result_apply (n : Fin 4) (h w : Fin 256) (k : Fin 4) :
    (W5 m d r' : S4x256x256x4.Idx → BitVec 32) (ix4 n h w k) = spec (m (d, a0')) (m (d, a1')) n h w k := by
  rw [W5_v15, W4_v13, W3_v12]
  by_cases hh : h.val < 192
  · exact (joined_head _ _ n k ⟨h.val, hh⟩ w).trans (head_apply _ _ n k ⟨h.val, hh⟩ w)
  · have hl := h.isLt
    have e : h = (⟨h.val - 192, by omega⟩ : Fin 64).natAdd 192 := Fin.ext (by show h.val = 192 + (h.val - 192); omega)
    rw [e]
    refine (joined_tail _ _ n k _ w).trans ?_
    unfold scRes
    rw [W1_v9]
    exact tail_pix _ _ n k _ w

end Cert.Proof.KernelIdeal

end
-- ==== Proof.RefStep.lean ====
module

public import proofs.«01_k».proof.Proof.Near
public import proofs.«01_k».proof.Proof.Gen.ReferenceIdeal.Run
public import Idealize.ShloMosaic.Lib.Routing.OpsSet
public import Idealize.ShloMosaic.Lib.Pointwise

@[expose] public section

/-! The reference's operations of one candidate, read at a pixel: the mask of suppressed candidates it carries on, and the
column of kept candidates it writes. -/

noncomputable section

namespace Cert.Proof.Ref

open Cert.ReferenceIdeal Cert.ReferenceIdeal.Gen Idealize.ShloMosaic

/-- A truth value as a one-bit word. -/
abbrev bit (b : Bool) : BitVec 1 := if b then 1#1 else 0#1

/-- Candidate `m`, the last one where `m` is out of range. -/
def cand (m : ℕ) : Fin 16 := ⟨min m 15, by omega⟩

theorem cand_val (j : Fin 16) : cand j.val = j := Fin.ext (by have := j.isLt; simp only [cand]; omega)

variable (C : FVec Ideal S4x256x256x16x2 .f32)

/-- The candidates' closeness at pixel `(n, h, w)`, from the projected coordinates. -/
def near (n : Fin 4) (h w : Fin 256) : ℕ → ℕ → Bool :=
  nearDist (fun m => C (ix5 n h w (cand m) (0 : Fin 2))) (fun m => C (ix5 n h w (cand m) (1 : Fin 2)))

/-- Whether candidate `j` is suppressed by one before `m`, an earlier one never by a later one. -/
def sup (nr : ℕ → ℕ → Bool) : ℕ → ℕ → Bool
  | 0, _ => false
  | m + 1, j => sup nr m j || ((!sup nr m m && decide (m < j)) && nr m j)

theorem sup_eq (nr : ℕ → ℕ → Bool) (m : ℕ) : ∀ j, m ≤ j → sup nr m j = Spec.sup nr m j := by
  induction m with
  | zero => intro _ _; rfl
  | succ m ih =>
    intro j hj
    rw [sup, Spec.sup, ih j (by omega), ih m (le_refl _), decide_eq_true (show m < j by omega), Bool.and_true]

/-- The candidates not suppressed, at candidate `m`. -/
def valid (S : IVec S4x256x256x16 1) (m : ℕ) (hs : S4x256x256x16.Slices ![0, 0, 0, m] S4x256x256x1) : IVec S4x256x256 1 :=
  noti (shapeCast _ (extractStridedSlice S4x256x256x1 ![0, 0, 0, m] S hs) shapeCasts_S4x256x256x1_S4x256x256)

/-- Every candidate's coordinates less candidate `m`'s. -/
def diff (m : ℕ) (hs : S4x256x256x16x2.Slices ![0, 0, 0, m, 0] S4x256x256x1x2) : FVec Ideal S4x256x256x16x2 .f32 :=
  subf C (broadcastInDim S4x256x256x16x2 ![0, 1, 2, 3, 4] bcast_S4x256x256x1x2_S4x256x256x16x2_0_1_2_3_4
    (extractStridedSlice S4x256x256x1x2 ![0, 0, 0, m, 0] C hs))

/-- Whether each candidate is within distance two, from the differences. -/
def close (D : FVec Ideal S4x256x256x16x2 .f32) : IVec S4x256x256x16 1 :=
  cmpf .ole (Host.sqrt (Host.reduceAdd (mulf D D) (constant S_ .f32 0x00000000#32) reducesTo_S4x256x256x16x2_S4x256x256x16_d4 h_S_))
    (broadcastInDim S4x256x256x16 ![] bcast_S_S4x256x256x16 (constant S_ .f32 0x40000000#32))

/-- Which candidates come after candidate `m`. -/
def later (m : ℕ) : IVec S16 1 :=
  cmpi .sgt (iotaInDim S16 32 0) (broadcastInDim S16 ![] bcast_S_S16 (constantI S_ 32 (BitVec.ofNat 32 m)))

/-- The suppressed candidates after candidate `m`. -/
def next (S : IVec S4x256x256x16 1) (m : ℕ) (hs : S4x256x256x16.Slices ![0, 0, 0, m] S4x256x256x1)
    (hs' : S4x256x256x16x2.Slices ![0, 0, 0, m, 0] S4x256x256x1x2) : IVec S4x256x256x16 1 :=
  ori S (andi (andi (broadcastInDim S4x256x256x16 ![0, 1, 2, 3] bcast_S4x256x256x1_S4x256x256x16_0_1_2_3
      (broadcastInDim S4x256x256x1 ![0, 1, 2] bcast_S4x256x256_S4x256x256x1_0_1_2 (valid S m hs)))
    (broadcastInDim S4x256x256x16 ![0, 1, 2, 3] bcast_S1x1x1x16_S4x256x256x16_0_1_2_3
      (broadcastInDim S1x1x1x16 ![3] bcast_S16_S1x1x1x16_3 (later m)))) (close (diff C m hs')))

variable (n : Fin 4) (h w : Fin 256)

theorem valid_apply (S : IVec S4x256x256x16 1) (m : Fin 16) (hs : S4x256x256x16.Slices ![0, 0, 0, m.val] S4x256x256x1) :
    valid S m.val hs (ix3 n h w) = ~~~ S (ix4 n h w m) := by
  have e : ∀ v : IVec S4x256x256x1 1, shapeCast S4x256x256 v shapeCasts_S4x256x256x1_S4x256x256 (ix3 n h w) = v (ix4 n h w (0 : Fin 1)) := by
    intro v
    pointwise
  show ~~~ (shapeCast S4x256x256 _ _ (ix3 n h w)) = _
  rw [e]
  refine congrArg (fun i => ~~~ S i) ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.add_zero _)

theorem diff_apply (m j : Fin 16) (a : Fin 2) (hs : S4x256x256x16x2.Slices ![0, 0, 0, m.val, 0] S4x256x256x1x2) :
    diff C m.val hs (ix5 n h w j a) = C (ix5 n h w j a) - C (ix5 n h w m a) := by
  have e : ∀ v : FVec Ideal S4x256x256x1x2 .f32, broadcastInDim S4x256x256x16x2 ![0, 1, 2, 3, 4] bcast_S4x256x256x1x2_S4x256x256x16x2_0_1_2_3_4 v
      (ix5 n h w j a) = v (ix5 n h w (0 : Fin 1) a) := by
    intro v
    pointwise
  show C _ - broadcastInDim S4x256x256x16x2 _ _ _ _ = _
  rw [e]
  refine congrArg (fun i => C (ix5 n h w j a) - C i) ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.add_zero _)
  | ⟨4, _⟩ => exact Fin.ext (Nat.zero_add _)

theorem close_apply (m j : Fin 16) (hs : S4x256x256x16x2.Slices ![0, 0, 0, m.val, 0] S4x256x256x1x2) :
    close (diff C m.val hs) (ix4 n h w j) = bit (near C n h w m.val j.val) := by
  have e : ∀ D : FVec Ideal S4x256x256x16x2 .f32, close D (ix4 n h w j)
      = FloatOps.cmpf (F := Ideal) (φ := .f32) .ole (Ideal.sqrt (D (ix5 n h w j (0 : Fin 2)) * D (ix5 n h w j (0 : Fin 2)) + D (ix5 n h w j (1 : Fin 2)) * D (ix5 n h w j (1 : Fin 2))))
        (FloatOps.ofBits .f32 0x40000000#32) := by
    intro D
    unfold close
    pointwise
    rw [Fin.sum_univ_two]
  rw [e, diff_apply, diff_apply]
  have hn : near C n h w m.val j.val = (FloatOps.cmpf (F := Ideal) (φ := .f32) .ole (Ideal.sqrt
      ((C (ix5 n h w j (0 : Fin 2)) - C (ix5 n h w m (0 : Fin 2))) * (C (ix5 n h w j (0 : Fin 2)) - C (ix5 n h w m (0 : Fin 2)))
        + (C (ix5 n h w j (1 : Fin 2)) - C (ix5 n h w m (1 : Fin 2))) * (C (ix5 n h w j (1 : Fin 2)) - C (ix5 n h w m (1 : Fin 2)))))
        (FloatOps.ofBits .f32 0x40000000#32) == 1#1) := by
    unfold near nearDist distSq
    dsimp only
    rw [cand_val, cand_val]
    rfl
  rw [hn]
  generalize FloatOps.cmpf (F := Ideal) (φ := .f32) _ _ _ = b
  revert b
  decide

theorem later_apply (m j : Fin 16) : later m.val (ix1 j) = bit (decide (m.val < j.val)) := by
  show IntOp.cmpi .sgt (BitVec.ofNat 32 j.val) (BitVec.ofNat 32 m.val) = _
  revert m j
  decide

theorem next_apply (S : IVec S4x256x256x16 1) (m j : Fin 16) (hs : S4x256x256x16.Slices ![0, 0, 0, m.val] S4x256x256x1)
    (hs' : S4x256x256x16x2.Slices ![0, 0, 0, m.val, 0] S4x256x256x1x2) :
    next C S m.val hs hs' (ix4 n h w j)
      = S (ix4 n h w j) ||| ((~~~ S (ix4 n h w m) &&& bit (decide (m.val < j.val))) &&& bit (near C n h w m.val j.val)) := by
  have e : ∀ v : IVec S4x256x256 1, broadcastInDim S4x256x256x16 ![0, 1, 2, 3] bcast_S4x256x256x1_S4x256x256x16_0_1_2_3
      (broadcastInDim S4x256x256x1 ![0, 1, 2] bcast_S4x256x256_S4x256x256x1_0_1_2 v) (ix4 n h w j) = v (ix3 n h w) := by
    intro v
    pointwise
  have e' : ∀ v : IVec S16 1, broadcastInDim S4x256x256x16 ![0, 1, 2, 3] bcast_S1x1x1x16_S4x256x256x16_0_1_2_3
      (broadcastInDim S1x1x1x16 ![3] bcast_S16_S1x1x1x16_3 v) (ix4 n h w j) = v (ix1 j) := by
    intro v
    pointwise
  show _ ||| ((broadcastInDim S4x256x256x16 _ _ _ _ &&& broadcastInDim S4x256x256x16 _ _ _ _) &&& close _ _) = _
  rw [e, e', valid_apply, later_apply, close_apply]

/-- The mask of suppressed candidates before candidate `m` is what it should be, at every pixel. -/
def Inv (m : ℕ) (S : IVec S4x256x256x16 1) : Prop :=
  ∀ (n : Fin 4) (h w : Fin 256) (j : Fin 16), S (ix4 n h w j) = bit (sup (near C n h w) m j.val)

theorem inv_next {S : IVec S4x256x256x16 1} (m : Fin 16) (hs : S4x256x256x16.Slices ![0, 0, 0, m.val] S4x256x256x1)
    (hs' : S4x256x256x16x2.Slices ![0, 0, 0, m.val, 0] S4x256x256x1x2) (hS : Inv C m.val S) : Inv C (m.val + 1) (next C S m.val hs hs') := by
  intro n h w j
  rw [next_apply, hS, hS, sup]
  cases sup (near C n h w) m.val j.val <;> cases sup (near C n h w) m.val m.val <;> cases decide (m.val < j.val)
    <;> cases near C n h w m.val j.val <;> rfl

theorem valid_eq {S : IVec S4x256x256x16 1} (m : Fin 16) (hs : S4x256x256x16.Slices ![0, 0, 0, m.val] S4x256x256x1)
    (hS : Inv C m.val S) : valid S m.val hs (ix3 n h w) = bit (Spec.keep (near C n h w) m.val) := by
  rw [valid_apply, hS, Spec.keep, sup_eq _ _ _ (le_refl _)]
  cases Spec.sup (near C n h w) m.val m.val <;> rfl

/-! ## The column written -/

theorem lands (m : Fin 16) (idx : IVec S1 32) (hidx : ∀ i, idx i = BitVec.ofNat 32 m.val) (k : S4x256x256.Idx) (j : Fin 16) :
    scatter_S4x256x256x16_S1_S4x256x256_012_3_3_0.resultIdx? k idx = some (ix4 n h w j) ↔ k = ix3 n h w ∧ j = m := by
  have h0 : scatter_S4x256x256x16_S1_S4x256x256_012_3_3_0.window k 0 = (k 0).val := rfl
  have h1 : scatter_S4x256x256x16_S1_S4x256x256_012_3_3_0.window k 1 = (k 1).val := rfl
  have h2 : scatter_S4x256x256x16_S1_S4x256x256_012_3_3_0.window k 2 = (k 2).val := rfl
  have h3 : scatter_S4x256x256x16_S1_S4x256x256_012_3_3_0.window k 3 = 0 := rfl
  have s0 : scatter_S4x256x256x16_S1_S4x256x256_012_3_3_0.start k idx 0 = 0 := rfl
  have s1 : scatter_S4x256x256x16_S1_S4x256x256_012_3_3_0.start k idx 1 = 0 := rfl
  have s2 : scatter_S4x256x256x16_S1_S4x256x256_012_3_3_0.start k idx 2 = 0 := rfl
  have hm : (BitVec.ofNat 32 m.val).toInt = (m.val : Int) := by
    clear hidx
    revert m
    decide
  have s3 : scatter_S4x256x256x16_S1_S4x256x256_012_3_3_0.start k idx 3 = (m.val : Int) := by
    unfold ScatterDims.start
    rw [dif_pos (show (3 : Fin 4) ∈ scatter_S4x256x256x16_S1_S4x256x256_012_3_3_0.scatterDimsToOperandDims from List.mem_singleton.mpr rfl), hidx, hm]
  rw [Routing.resultIdx?_eq_some]
  constructor
  · intro e
    have e0 := e 0
    have e1 := e 1
    have e2 := e 2
    have e3 := e 3
    rw [h0, s0] at e0
    rw [h1, s1] at e1
    rw [h2, s2] at e2
    rw [h3, s3] at e3
    refine ⟨?_, Fin.ext (by have : (ix4 n h w j 3).val = j.val := rfl; omega)⟩
    funext a
    match a with
    | ⟨0, _⟩ => exact Fin.ext (by have : (ix4 n h w j 0).val = n.val := rfl; show (k 0).val = n.val; omega)
    | ⟨1, _⟩ => exact Fin.ext (by have : (ix4 n h w j 1).val = h.val := rfl; show (k 1).val = h.val; omega)
    | ⟨2, _⟩ => exact Fin.ext (by have : (ix4 n h w j 2).val = w.val := rfl; show (k 2).val = w.val; omega)
  · rintro ⟨rfl, rfl⟩ a
    match a with
    | ⟨0, _⟩ => show _ + ((scatter_S4x256x256x16_S1_S4x256x256_012_3_3_0.window _ 0 : ℕ) : Int) = _; erw [h0, s0]; exact zero_add _
    | ⟨1, _⟩ => show _ + ((scatter_S4x256x256x16_S1_S4x256x256_012_3_3_0.window _ 1 : ℕ) : Int) = _; erw [h1, s1]; exact zero_add _
    | ⟨2, _⟩ => show _ + ((scatter_S4x256x256x16_S1_S4x256x256_012_3_3_0.window _ 2 : ℕ) : Int) = _; erw [h2, s2]; exact zero_add _
    | ⟨3, _⟩ => show _ + ((scatter_S4x256x256x16_S1_S4x256x256_012_3_3_0.window _ 3 : ℕ) : Int) = _; erw [h3, s3]; exact add_zero _

/-- The kept candidates, with column `m` written. -/
def put (K : IVec S4x256x256x16 1) (m : ℕ) (u : IVec S4x256x256 1) : IVec S4x256x256x16 1 :=
  Host.scatter scatter_S4x256x256x16_S1_S4x256x256_012_3_3_0 (fun _ b => b) K
    (broadcastInDim S1 ![] bcast_S_S1 (constantI S_ 32 (BitVec.ofNat 32 m))) u

theorem put_apply (K : IVec S4x256x256x16 1) (m : Fin 16) (u : IVec S4x256x256 1) (j : Fin 16) :
    put K m.val u (ix4 n h w j) = if j = m then u (ix3 n h w) else K (ix4 n h w j) := by
  have hl := lands n h w m (broadcastInDim S1 ![] bcast_S_S1 (constantI S_ 32 (BitVec.ofNat 32 m.val))) fun _ => rfl
  unfold put
  by_cases hj : j = m
  · rw [if_pos hj]
    exact Routing.scatter_set_hit _ _ _ _ _ _ (fun k hk => congrArg u ((hl k j).mp hk).1) (ix3 n h w) ((hl _ j).mpr ⟨rfl, hj⟩)
  · rw [if_neg hj]
    exact Routing.scatter_set_miss _ _ _ _ _ fun k hk => hj ((hl k j).mp hk).2

/-- The columns before `m` hold which candidates are kept. -/
def Kept (m : ℕ) (K : IVec S4x256x256x16 1) : Prop :=
  ∀ (n : Fin 4) (h w : Fin 256) (j : Fin 16), j.val < m → K (ix4 n h w j) = bit (Spec.keep (near C n h w) j.val)

theorem kept_put {S K : IVec S4x256x256x16 1} (m : Fin 16) (hs : S4x256x256x16.Slices ![0, 0, 0, m.val] S4x256x256x1)
    (hS : Inv C m.val S) (hK : Kept C m.val K) : Kept C (m.val + 1) (put K m.val (valid S m.val hs)) := by
  intro n h w j hj
  rw [put_apply]
  by_cases e : j = m
  · rw [if_pos e, valid_eq C n h w m hs hS, e]
  · rw [if_neg e]
    exact hK n h w j (by have := Fin.val_ne_of_ne e; omega)

end Cert.Proof.Ref

end
-- ==== Proof.RefValue.lean ====
module

public import proofs.«01_k».proof.Proof.RefStep

@[expose] public section

/-! The reference's result at a pixel: the candidates of place zero to three of the suppression. -/

noncomputable section

namespace Cert.Proof.Ref

open Cert.ReferenceIdeal Cert.ReferenceIdeal.Gen Cert.ReferenceIdeal.Value Idealize.ShloMosaic

variable (V : Valuation τ sig (Elt Ideal))

/-! ## The masks, candidate by candidate -/

theorem inv_0 : Inv (res_main_v8 V) 0 (res_main_v9 V) := fun _ _ _ _ => rfl
theorem inv_1 : Inv (res_main_v8 V) 1 (res_main_v33 V) := inv_next (S := res_main_v9 V) _ 0 _ _ (inv_0 V)
theorem inv_2 : Inv (res_main_v8 V) 2 (res_main_v55 V) := inv_next (S := res_main_v33 V) _ 1 _ _ (inv_1 V)
theorem inv_3 : Inv (res_main_v8 V) 3 (res_main_v77 V) := inv_next (S := res_main_v55 V) _ 2 _ _ (inv_2 V)
theorem inv_4 : Inv (res_main_v8 V) 4 (res_main_v99 V) := inv_next (S := res_main_v77 V) _ 3 _ _ (inv_3 V)
theorem inv_5 : Inv (res_main_v8 V) 5 (res_main_v121 V) := inv_next (S := res_main_v99 V) _ 4 _ _ (inv_4 V)
theorem inv_6 : Inv (res_main_v8 V) 6 (res_main_v143 V) := inv_next (S := res_main_v121 V) _ 5 _ _ (inv_5 V)
theorem inv_7 : Inv (res_main_v8 V) 7 (res_main_v165 V) := inv_next (S := res_main_v143 V) _ 6 _ _ (inv_6 V)
theorem inv_8 : Inv (res_main_v8 V) 8 (res_main_v187 V) := inv_next (S := res_main_v165 V) _ 7 _ _ (inv_7 V)
theorem inv_9 : Inv (res_main_v8 V) 9 (res_main_v209 V) := inv_next (S := res_main_v187 V) _ 8 _ _ (inv_8 V)
theorem inv_10 : Inv (res_main_v8 V) 10 (res_main_v231 V) := inv_next (S := res_main_v209 V) _ 9 _ _ (inv_9 V)
theorem inv_11 : Inv (res_main_v8 V) 11 (res_main_v253 V) := inv_next (S := res_main_v231 V) _ 10 _ _ (inv_10 V)
theorem inv_12 : Inv (res_main_v8 V) 12 (res_main_v275 V) := inv_next (S := res_main_v253 V) _ 11 _ _ (inv_11 V)
theorem inv_13 : Inv (res_main_v8 V) 13 (res_main_v297 V) := inv_next (S := res_main_v275 V) _ 12 _ _ (inv_12 V)
theorem inv_14 : Inv (res_main_v8 V) 14 (res_main_v319 V) := inv_next (S := res_main_v297 V) _ 13 _ _ (inv_13 V)
theorem inv_15 : Inv (res_main_v8 V) 15 (res_main_v341 V) := inv_next (S := res_main_v319 V) _ 14 _ _ (inv_14 V)

/-! ## The kept candidates -/

/-- The kept candidates, every column written. -/
def kept : IVec S4x256x256x16 1 :=
  put (put (put (put (put (put (put (put (put (put (put (put (put (put (put (put (broadcastInDim S4x256x256x16 ![] bcast_S_S4x256x256x16 (constantI S_ 1 0#1)) 0 (res_main_v14 V)) 1 (res_main_v36 V)) 2 (res_main_v58 V)) 3 (res_main_v80 V)) 4 (res_main_v102 V)) 5 (res_main_v124 V)) 6 (res_main_v146 V)) 7 (res_main_v168 V)) 8 (res_main_v190 V)) 9 (res_main_v212 V)) 10 (res_main_v234 V)) 11 (res_main_v256 V)) 12 (res_main_v278 V)) 13 (res_main_v300 V)) 14 (res_main_v322 V)) 15 (res_main_v344 V)

theorem kept_all : Kept (res_main_v8 V) 16 (kept V) :=
  kept_put _ (S := res_main_v341 V) 15 _ (inv_15 V) (kept_put _ (S := res_main_v319 V) 14 _ (inv_14 V) (kept_put _ (S := res_main_v297 V) 13 _ (inv_13 V) (kept_put _ (S := res_main_v275 V) 12 _ (inv_12 V) (kept_put _ (S := res_main_v253 V) 11 _ (inv_11 V) (kept_put _ (S := res_main_v231 V) 10 _ (inv_10 V) (kept_put _ (S := res_main_v209 V) 9 _ (inv_9 V) (kept_put _ (S := res_main_v187 V) 8 _ (inv_8 V) (kept_put _ (S := res_main_v165 V) 7 _ (inv_7 V) (kept_put _ (S := res_main_v143 V) 6 _ (inv_6 V) (kept_put _ (S := res_main_v121 V) 5 _ (inv_5 V) (kept_put _ (S := res_main_v99 V) 4 _ (inv_4 V) (kept_put _ (S := res_main_v77 V) 3 _ (inv_3 V) (kept_put _ (S := res_main_v55 V) 2 _ (inv_2 V) (kept_put _ (S := res_main_v33 V) 1 _ (inv_1 V) (kept_put _ (S := res_main_v9 V) 0 _ (inv_0 V) (fun _ _ _ _ h => absurd h (Nat.not_lt_zero _)))))))))))))))))

/-! ## The keys and the sort -/

theorem key_apply (n : Fin 4) (h w : Fin 256) (j : Fin 16) :
    res_main_v367 V (ix4 n h w j) = BitVec.ofNat 32 (Spec.key (near (res_main_v8 V) n h w) j.val) := by
  have e : ∀ v : IVec S16 32, broadcastInDim S4x256x256x16 ![3] bcast_S16_S4x256x256x16_3 v (ix4 n h w j) = v (ix1 j) := by
    intro v
    pointwise
  have hk : res_main_v367 V = select (kept V) (broadcastInDim S4x256x256x16 ![3] bcast_S16_S4x256x256x16_3 (iotaInDim S16 32 0))
      (broadcastInDim S4x256x256x16 ![3] bcast_S16_S4x256x256x16_3
        (addi (iotaInDim S16 32 0) (broadcastInDim S16 ![] bcast_S_S16 (constantI S_ 32 16#32)))) := rfl
  rw [hk]
  show Scalar.select _ (broadcastInDim S4x256x256x16 _ _ _ _) (broadcastInDim S4x256x256x16 _ _ _ _) = _
  rw [e, e, kept_all V n h w j j.isLt, Spec.key]
  cases Spec.keep (near (res_main_v8 V) n h w) j.val
  · rw [if_neg Bool.false_ne_true, BitVec.ofNat_add]
    rfl
  · rfl

theorem key_word_lt {a b : ℕ} (ha : a < 32) (hb : b < 32) :
    (IntOp.cmpi .slt (BitVec.ofNat 32 a) (BitVec.ofNat 32 b) == 1#1) = decide (a < b) := by
  have ht : ∀ c : ℕ, c < 32 → (BitVec.ofNat 32 c).toInt = (c : Int) := fun c hc => by
    rw [BitVec.toInt_eq_toNat_of_lt (by rw [BitVec.toNat_ofNat]; omega), BitVec.toNat_ofNat]
    omega
  show (BitVec.ofBool (BitVec.slt _ _) == 1#1) = _
  rw [BitVec.slt, ht a ha, ht b hb]
  by_cases h : a < b
  · rw [decide_eq_true (Int.ofNat_lt.mpr h), decide_eq_true h]
    rfl
  · rw [decide_eq_false (mt Int.ofNat_lt.mp h), decide_eq_false h]
    rfl

theorem key_lt (nr : ℕ → ℕ → Bool) (j : Fin 16) : Spec.key nr j.val < 32 := by
  unfold Spec.key
  have := j.isLt
  split <;> omega

/-- The sort of a pixel's candidates by keys, at place `k`. -/
theorem sort_apply (K I : IVec S4x256x256x16 32) (nr : ℕ → ℕ → Bool) (n : Fin 4) (h w : Fin 256)
    (hK : ∀ j : Fin 16, K (ix4 n h w j) = BitVec.ofNat 32 (Spec.key nr j.val))
    (hI : ∀ j : Fin 16, I (ix4 n h w j) = BitVec.ofNat 32 j.val) (k : Fin 16) :
    (Host.sort2 S4x256x256x16 3 comparator_i32_i32_d3 K I).2 (ix4 n h w k) = Spec.out nr k.val 16 := by
  have hj : ∀ p : Fin 16, Shape.Idx.along (s := S4x256x256x16) (ix4 n h w k) (3 : Fin 4) p = ix4 n h w p := by
    intro p
    funext a
    match a with
    | ⟨0, _⟩ => rfl
    | ⟨1, _⟩ => rfl
    | ⟨2, _⟩ => rfl
    | ⟨3, _⟩ => rfl
  have hB : ∀ p q : Fin 16, (comparator_i32_i32_d3 (K (ix4 n h w p), I (ix4 n h w p)) (K (ix4 n h w q), I (ix4 n h w q)) == 1#1)
      = decide (Spec.key nr p.val < Spec.key nr q.val) := by
    intro p q
    rw [hK p, hK q, ← key_word_lt (key_lt _ p) (key_lt _ q)]
    rfl
  rw [← Spec.sorted_eq nr _ hB k, ← hI, ← hj (sortedFrom _ k)]
  unfold Host.sort2
  rw [dif_pos (show 3 < S4x256x256x16.rank by decide)]
  refine congrArg (fun b => I (Shape.Idx.along (s := S4x256x256x16) (ix4 n h w k) (3 : Fin 4) (sortedFrom b k))) ?_
  funext p q
  have e := hj p
  have e' := hj q
  dsimp only at e e' ⊢
  rw [← e, ← e']
  rfl

/-- The reference's result at pixel `(n, h, w)`, place `k`. -/
theorem out_apply (n : Fin 4) (h w : Fin 256) (k : Fin 4) :
    extractStridedSlice S4x256x256x4 ![0, 0, 0, 0] ((Host.sort2 S4x256x256x16 3 comparator_i32_i32_d3 (res_main_v367 V)
      (res_main_call1_v0 V)).2) slices_S4x256x256x16_S4x256x256x4_0_0_0_0 (ix4 n h w k)
      = Spec.out (near (res_main_v8 V) n h w) k.val 16 := by
  have hs : ∀ x : IVec S4x256x256x16 32, extractStridedSlice S4x256x256x4 ![0, 0, 0, 0] x slices_S4x256x256x16_S4x256x256x4_0_0_0_0
      (ix4 n h w k) = x (ix4 n h w (k.castLE (by decide) : Fin 16)) := by
    intro x
    refine congrArg x ?_
    funext a
    match a with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  rw [hs]
  exact sort_apply _ _ _ n h w (key_apply V n h w) (fun _ => rfl) (k.castLE (by decide))

end Cert.Proof.Ref

end
-- ==== Proof.RefCoord.lean ====
module

public import proofs.«01_k».proof.Proof.RefValue
public import proofs.«01_k».proof.Proof.Coord

@[expose] public section

/-! The coordinates the reference's suppression reads. -/

noncomputable section

namespace Cert.Proof.Ref

open Cert.ReferenceIdeal Cert.ReferenceIdeal.Gen Cert.ReferenceIdeal.Value Idealize.ShloMosaic
open Cert.Proof.Coord

/-- The projection, with the pixels flattened and the candidates last. -/
theorem dot_apply (P : FVec Ideal S4x3x3 .f32) (X : FVec Ideal S4x3x65536x16 .f32) (n : Fin 4) (a : Fin 3) (q : Fin 65536) (m : Fin 16) :
    Host.dotGeneral dot_S4x3x3_S4x3x65536x16_S4x3x65536x16_2_1_1_23_0_0 none P X (ix4 n a q m)
      = ∑ k : Fin 3, P (ix3 n a k) * X (ix4 n k q m) := by
  pointwise

theorem flatten_apply (X : FVec Ideal S4x16x3x256x256 .f32) (n : Fin 4) (k : Fin 3) (h w : Fin 256) (m : Fin 16) :
    shapeCast S4x3x65536x16 (transpose S4x3x256x256x16 [0, 2, 3, 4, 1] X transposes_S4x16x3x256x256_S4x3x256x256x16_0_2_3_4_1)
      shapeCasts_S4x3x256x256x16_S4x3x65536x16 (ix4 n k (flat h w) m) = X (ix5 n m k h w) := by
  have e : ∀ v : FVec Ideal S4x3x256x256x16 .f32, shapeCast S4x3x65536x16 v shapeCasts_S4x3x256x256x16_S4x3x65536x16 (ix4 n k (flat h w) m)
      = v (ix5 n k h w m) := by
    intro v
    refine shapeCast_apply _ _ _ _ ?_
    rw [Shape.rowMajor_val_four, Shape.rowMajor_val_five]
    show (((n.val * 3 + k.val) * 256 + h.val) * 256 + w.val) * 16 + m.val = ((n.val * 3 + k.val) * 65536 + (h.val * 256 + w.val)) * 16 + m.val
    omega
  rw [e]
  pointwise

variable (V : Valuation τ sig (Elt Ideal))

/-- The sum over the flattened coordinates is the sum over the coordinates. -/
theorem sum_apply (P : FVec Ideal S4x3x3 .f32) (X : FVec Ideal S4x16x3x256x256 .f32) (n : Fin 4) (h w : Fin 256)
    (m : Fin 16) (b : Fin 3) :
    (∑ k : Fin 3, P (ix3 n b k)
      * shapeCast S4x3x65536x16 (transpose S4x3x256x256x16 [0, 2, 3, 4, 1] X
          transposes_S4x16x3x256x256_S4x3x256x256x16_0_2_3_4_1) shapeCasts_S4x3x256x256x16_S4x3x65536x16 (ix4 n k (flat h w) m))
      = proj X P n h w m b :=
  Finset.sum_congr rfl fun k _ => congrArg (P (ix3 n b k) * ·) (flatten_apply _ _ _ _ _ _)

theorem coord_apply (n : Fin 4) (h w : Fin 256) (m : Fin 16) (a : Fin 2) :
    res_main_v8 V (ix5 n h w m a) = coord (V (Proc.devRef .tc main_arg0)) (V (Proc.devRef .tc main_arg1)) n h w m a := by
  have e : ∀ v : FVec Ideal S4x2x65536x16 .f32, shapeCast S4x256x256x16x2 (transpose S4x65536x16x2 [0, 2, 3, 1] v transposes_S4x2x65536x16_S4x65536x16x2_0_2_3_1)
      shapeCasts_S4x65536x16x2_S4x256x256x16x2 (ix5 n h w m a) = v (ix4 n a (flat h w) m) := by
    intro v
    have e : ∀ v : FVec Ideal S4x65536x16x2 .f32, shapeCast S4x256x256x16x2 v shapeCasts_S4x65536x16x2_S4x256x256x16x2 (ix5 n h w m a)
        = v (ix4 n (flat h w) m a) := by
      intro v
      refine shapeCast_apply _ _ _ _ ?_
      rw [Shape.rowMajor_val_four, Shape.rowMajor_val_five]
      show ((n.val * 65536 + (h.val * 256 + w.val)) * 16 + m.val) * 2 + a.val = (((n.val * 256 + h.val) * 256 + w.val) * 16 + m.val) * 2 + a.val
      omega
    rw [e]
    pointwise
  have e' : ∀ v : FVec Ideal S4x3x65536x16 .f32, ∀ q : Fin 65536,
      Host.divf (extractStridedSlice S4x2x65536x16 ![0, 0, 0, 0] v slices_S4x3x65536x16_S4x2x65536x16_0_0_0_0)
        (broadcastInDim S4x2x65536x16 ![0, 1, 2, 3] bcast_S4x1x65536x16_S4x2x65536x16_0_1_2_3
          (extractStridedSlice S4x1x65536x16 ![0, 2, 0, 0] v slices_S4x3x65536x16_S4x1x65536x16_0_2_0_0)) (ix4 n a q m)
        = Ideal.div (v (ix4 n (a.castLE (by decide) : Fin 3) q m)) (v (ix4 n (2 : Fin 3) q m)) := by
    intro v q
    pointwise
    rfl
  unfold res_main_v8
  refine (e _).trans ?_
  rw [e']
  unfold res_main_v2
  rw [dot_apply, dot_apply]
  have s : ∀ b : Fin 3, _ = _ := sum_apply (V (Proc.devRef .tc main_arg1)) (V (Proc.devRef .tc main_arg0)) n h w m
  exact congrArg₂ Ideal.div (s _) (s 2)

end Cert.Proof.Ref

end
-- ==== Proof.Algebraic.lean ====
module

public import proofs.«01_k».proof.Defs
public import proofs.«01_k».proof.Proof.KernelIdeal.Value
public import proofs.«01_k».proof.Proof.RefValue
public import proofs.«01_k».proof.Proof.RefCoord

@[expose] public section

/-! The kernel's result is the reference's on the extended reals. -/

noncomputable section

namespace Cert.Proof

open Idealize.ShloMosaic Idealize.SL.Sem

/-- The reference's result at a pixel, from its two arguments. -/
theorem ref_apply (V : Valuation Cert.ReferenceIdeal.τ Cert.ReferenceIdeal.sig (Elt Ideal)) (n : Fin 4) (h w : Fin 256) (k : Fin 4) :
    Spec.out (Ref.near (Cert.ReferenceIdeal.Value.res_main_v8 V) n h w) k.val 16
      = KernelIdeal.spec (V (Proc.devRef .tc Cert.ReferenceIdeal.main_arg0)) (V (Proc.devRef .tc Cert.ReferenceIdeal.main_arg1)) n h w k := by
  have e : ∀ a : Fin 2, (fun c => (Cert.ReferenceIdeal.Value.res_main_v8 V : Cert.ReferenceIdeal.S4x256x256x16x2.Idx → Ideal .f32) (ix5 n h w (Ref.cand c) a))
      = fun c => Coord.coord (V (Proc.devRef .tc Cert.ReferenceIdeal.main_arg0)) (V (Proc.devRef .tc Cert.ReferenceIdeal.main_arg1)) n h w (Ref.cand c) a :=
    fun a => funext fun c => Ref.coord_apply V n h w (Ref.cand c) a
  exact congrArg₂ (fun x y => Spec.out (nearDist (F := Ideal) x y) k.val 16) (e 0) (e 1)

theorem algebraic : Cert.algebraic_KernelIdeal_ReferenceIdeal := by
  intro m ρ m' ρ' _ hagree
  refine ⟨fun c => KernelIdeal.W5 m c KernelIdeal.r',
    (θ_run Cert.KernelIdeal.defs _ _).mono (fun _ h c => h.1 c) (KernelIdeal.run_main (F := Ideal) m ρ),
    (θ_run Cert.ReferenceIdeal.defs _ _).mono (fun _ h c => ⟨(h c).1.trans ?_, (h c).2⟩) (Cert.ReferenceIdeal.Value.run (F := Ideal) m' ρ')⟩
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  refine (Ref.out_apply _ _ _ _ _).trans ((ref_apply _ _ _ _ _).trans (Eq.trans ?_ (KernelIdeal.result_apply m c _ _ _ _).symm))
  exact congrArg₂ (fun X P => KernelIdeal.spec X P (i 0) (i 1) (i 2) (i 3)) (hagree c).1 (hagree c).2

end Cert.Proof

end
-- ==== Proof.lean ====
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, frame_p, frame_pi, frame_ri, trivial, algebraic⟩

end Cert.Proof

end
